-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 8, 64]⟩ ⟨4, ![2, 128, 32, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 8, 64]⟩ ⟨4, ![2, 128, 32, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S2x128x8x64 : Shape := ⟨4, ![2, 128, 8, 64]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)
  bcast_S_S2x128x8x64 : S_.BroadcastsInDim S2x128x8x64 (![] : Fin 0 → Fin S2x128x8x64.rank)

variable [Facts]

def fn {F : FTy → Type} [FloatOps F] (main_arg0 : FVec F S2x128x512 .f32) (main_arg1 : FVec F S512x512 .f32) (main_arg2 : FVec F S2x128x8x64 .f32) (main_arg3 : FVec F S2x128x8x64 .f32) (main_arg4 : FVec F S512x512 .f32) : IVec S2x128x512 1 × IVec S512x512 1 × IVec S2x128x8x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x512 .f32 := Host.absf main_arg1
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S2x128x8x64 .f32 := Host.absf main_arg2
  let main_cst_1 : FVec F S_ .f32 := constant S_ .f32 0x7F800000#32
  let main_v7 : FVec F S2x128x8x64 .f32 := broadcastInDim S2x128x8x64 ![] bcast_S_S2x128x8x64 main_cst_1
  let main_v8 : IVec S2x128x8x64 1 := cmpf .olt main_v6 main_v7
  (main_v2, main_v5, main_v8)
-- ==== Pre_finite_scores_ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  bcast_S_S512x2048 : S_.BroadcastsInDim S512x2048 (![] : Fin 0 → Fin S512x2048.rank)
  bcast_S_S2x128x32x64 : S_.BroadcastsInDim S2x128x32x64 (![] : Fin 0 → Fin S2x128x32x64.rank)

variable [Facts]

def fn {F : FTy → Type} [FloatOps F] (main_arg0 : FVec F S2x128x512 .f32) (main_arg1 : FVec F S512x2048 .f32) (main_arg2 : FVec F S2x128x32x64 .f32) (main_arg3 : FVec F S2x128x32x64 .f32) (main_arg4 : FVec F S2048x512 .f32) : IVec S2x128x512 1 × IVec S512x2048 1 × IVec S2x128x32x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x2048 .f32 := Host.absf main_arg1
  let main_cst_0 : FVec F S_ .f32 := constant S_ .f32 0x7F800000#32
  let main_v4 : FVec F S512x2048 .f32 := broadcastInDim S512x2048 ![] bcast_S_S512x2048 main_cst_0
  let main_v5 : IVec S512x2048 1 := cmpf .olt main_v3 main_v4
  let main_v6 : FVec F S2x128x32x64 .f32 := Host.absf main_arg2
  let main_cst_1 : FVec F S_ .f32 := constant S_ .f32 0x7F800000#32
  let main_v7 : FVec F S2x128x32x64 .f32 := broadcastInDim S2x128x32x64 ![] bcast_S_S2x128x32x64 main_cst_1
  let main_v8 : IVec S2x128x32x64 1 := cmpf .olt main_v6 main_v7
  (main_v2, main_v5, main_v8)
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S128x512 : Shape := ⟨2, ![128, 512]⟩
abbrev S1x128x256 : Shape := ⟨3, ![1, 128, 256]⟩
abbrev S6 : Shape := ⟨1, ![6]⟩
abbrev S1x128x512 : Shape := ⟨3, ![1, 128, 512]⟩
abbrev S128x64 : Shape := ⟨2, ![128, 64]⟩
abbrev S1x128x1x64 : Shape := ⟨4, ![1, 128, 1, 64]⟩
abbrev S1x128x64 : Shape := ⟨3, ![1, 128, 64]⟩
abbrev S128x128 : Shape := ⟨2, ![128, 128]⟩
abbrev S128 : Shape := ⟨1, ![128]⟩
abbrev S128x1 : Shape := ⟨2, ![128, 1]⟩
abbrev S_ : Shape := ⟨0, ![]⟩
abbrev S1 : Shape := ⟨1, ![1]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x8x64, .f32⟩
  | .hbm, ⟨3, _⟩ => ⟨S2x128x8x64, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x8x64, .f32⟩
  | .local _ .vmem, ⟨4, _⟩ => ⟨S2x128x8x64, .f32⟩
  | .local _ .vmem, ⟨5, _⟩ => ⟨S2x128x512, .f32⟩
  | .local _ .vmem, ⟨6, _⟩ => ⟨S2x128x512, .bf16⟩
  | .local _ .vmem, ⟨7, _⟩ => ⟨S128x512, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let c1_i32_8 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v16 : BitVec 32 := Scalar.subi c1_i32_8 v7
  let v17 : Index := Scalar.indexCast v16
  let c0_9 : Index := 0#32
  let c0_10 : Index := 0#32
  ![v17.toNat, 0, 0]
def k0_off2 (d0 : Dev nD) : Fin 4 → Nat :=
  let c1_i32_8 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v16 : BitVec 32 := Scalar.subi c1_i32_8 v7
  let v25 : Index := Scalar.indexCast v16
  let c0_11 : Index := 0#32
  let c0_12 : Index := 0#32
  let c0_13 : Index := 0#32
  ![v25.toNat, 0, 0, 0]
def k0_off3 (d0 : Dev nD) : Fin 4 → Nat :=
  let c1_i32_8 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v16 : BitVec 32 := Scalar.subi c1_i32_8 v7
  let v56 : Index := Scalar.indexCast v16
  let c0_25 : Index := 0#32
  let c1 : Index := 1#32
  let c0_26 : Index := 0#32
  ![v56.toNat, 0, 1, 0]
def k0_off4 (d0 : Dev nD) : Fin 4 → Nat :=
  let c1_i32_8 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v16 : BitVec 32 := Scalar.subi c1_i32_8 v7
  let v87 : Index := Scalar.indexCast v16
  let c0_37 : Index := 0#32
  let c2 : Index := 2#32
  let c0_38 : Index := 0#32
  ![v87.toNat, 0, 2, 0]
def k0_off5 (d0 : Dev nD) : Fin 4 → Nat :=
  let c1_i32_8 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v16 : BitVec 32 := Scalar.subi c1_i32_8 v7
  let v118 : Index := Scalar.indexCast v16
  let c0_49 : Index := 0#32
  let c3 : Index := 3#32
  let c0_50 : Index := 0#32
  ![v118.toNat, 0, 3, 0]
def k0_off6 (d0 : Dev nD) : Fin 4 → Nat :=
  let c1_i32_8 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v16 : BitVec 32 := Scalar.subi c1_i32_8 v7
  let v149 : Index := Scalar.indexCast v16
  let c0_61 : Index := 0#32
  let c4 : Index := 4#32
  let c0_62 : Index := 0#32
  ![v149.toNat, 0, 4, 0]
def k0_off7 (d0 : Dev nD) : Fin 4 → Nat :=
  let c1_i32_8 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v16 : BitVec 32 := Scalar.subi c1_i32_8 v7
  let v180 : Index := Scalar.indexCast v16
  let c0_73 : Index := 0#32
  let c5 : Index := 5#32
  let c0_74 : Index := 0#32
  ![v180.toNat, 0, 5, 0]
def k0_off8 (d0 : Dev nD) : Fin 4 → Nat :=
  let c1_i32_8 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v16 : BitVec 32 := Scalar.subi c1_i32_8 v7
  let v211 : Index := Scalar.indexCast v16
  let c0_85 : Index := 0#32
  let c6 : Index := 6#32
  let c0_86 : Index := 0#32
  ![v211.toNat, 0, 6, 0]
def k0_off9 (d0 : Dev nD) : Fin 4 → Nat :=
  let c1_i32_8 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v16 : BitVec 32 := Scalar.subi c1_i32_8 v7
  let v242 : Index := Scalar.indexCast v16
  let c0_97 : Index := 0#32
  let c7 : Index := 7#32
  let c0_98 : Index := 0#32
  ![v242.toNat, 0, 7, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_116 : BitVec 32 := 1#32
  let v282 : BitVec 32 := Scalar.muli v3 c1_i32_116
  let v283 : BitVec 32 := Scalar.addi c0_i32 v282
  v283.toNat
def k0_dev2 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_118 : BitVec 32 := 1#32
  let v284 : BitVec 32 := Scalar.muli v4 c1_i32_118
  let v285 : BitVec 32 := Scalar.addi c0_i32_119 v284
  v285.toNat
def k0_off10 (d0 : Dev nD) : Fin 3 → Nat :=
  let c1_i32_120 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v286 : BitVec 32 := Scalar.subi c1_i32_120 v7
  let c0_i32_125 : BitVec 32 := 0#32
  let c0_i32_126 : BitVec 32 := 0#32
  ![v286.toNat, 0, 0]
def k0_dev3 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_123 : BitVec 32 := 1#32
  let v287 : BitVec 32 := Scalar.muli v3 c1_i32_123
  let v288 : BitVec 32 := Scalar.addi c0_i32_124 v287
  v288.toNat
def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v294 : Index := Scalar.indexCast v7
  let c0_127 : Index := 0#32
  let c0_128 : Index := 0#32
  ![v294.toNat, 0, 0]
def k0_off12 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v302 : Index := Scalar.indexCast v7
  let c0_130 : Index := 0#32
  let c0_131 : Index := 0#32
  let c0_132 : Index := 0#32
  ![v302.toNat, 0, 0, 0]
def k0_off13 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v333 : Index := Scalar.indexCast v7
  let c0_144 : Index := 0#32
  let c1_145 : Index := 1#32
  let c0_146 : Index := 0#32
  ![v333.toNat, 0, 1, 0]
def k0_off14 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v364 : Index := Scalar.indexCast v7
  let c0_158 : Index := 0#32
  let c2_159 : Index := 2#32
  let c0_160 : Index := 0#32
  ![v364.toNat, 0, 2, 0]
def k0_off15 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v395 : Index := Scalar.indexCast v7
  let c0_172 : Index := 0#32
  let c3_173 : Index := 3#32
  let c0_174 : Index := 0#32
  ![v395.toNat, 0, 3, 0]
def k0_off16 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v426 : Index := Scalar.indexCast v7
  let c0_186 : Index := 0#32
  let c4_187 : Index := 4#32
  let c0_188 : Index := 0#32
  ![v426.toNat, 0, 4, 0]
def k0_off17 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v457 : Index := Scalar.indexCast v7
  let c0_200 : Index := 0#32
  let c5_201 : Index := 5#32
  let c0_202 : Index := 0#32
  ![v457.toNat, 0, 5, 0]
def k0_off18 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v488 : Index := Scalar.indexCast v7
  let c0_214 : Index := 0#32
  let c6_215 : Index := 6#32
  let c0_216 : Index := 0#32
  ![v488.toNat, 0, 6, 0]
def k0_off19 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v519 : Index := Scalar.indexCast v7
  let c0_228 : Index := 0#32
  let c7_229 : Index := 7#32
  let c0_230 : Index := 0#32
  ![v519.toNat, 0, 7, 0]
def k0_off20 (d0 : Dev nD) : Fin 3 → Nat :=
  let c1_i32_247 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c1_i32_4 : BitVec 32 := 1#32
  let v9 : BitVec 32 := Scalar.andi v8 c1_i32_4
  let v557 : BitVec 32 := Scalar.subi c1_i32_247 v9
  let c0_i32_252 : BitVec 32 := 0#32
  let c256_i32 : BitVec 32 := 256#32
  ![v557.toNat, 0, 256]
def k0_dev4 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_250 : BitVec 32 := 1#32
  let v558 : BitVec 32 := Scalar.muli v4 c1_i32_250
  let v559 : BitVec 32 := Scalar.addi c0_i32_251 v558
  v559.toNat
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v573 : Index := Scalar.indexCast v7
  let c0_264 : Index := 0#32
  let c0_265 : Index := 0#32
  ![v573.toNat, 0, 0]
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c0_i32_275 : BitVec 32 := 0#32
  let c0_i32_276 : BitVec 32 := 0#32
  ![v7.toNat, 0, 0]
def k0_dev5 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_273 : BitVec 32 := 1#32
  let v584 : BitVec 32 := Scalar.muli v4 c1_i32_273
  let v585 : BitVec 32 := Scalar.addi c0_i32_274 v584
  v585.toNat
def k0_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c1_i32_4 : BitVec 32 := 1#32
  let v9 : BitVec 32 := Scalar.andi v8 c1_i32_4
  let v599 : Index := Scalar.indexCast v9
  let c0_288 : Index := 0#32
  let c256_289 : Index := 256#32
  ![v599.toNat, 0, 256]
def k0_off24 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c1_i32_4 : BitVec 32 := 1#32
  let v9 : BitVec 32 := Scalar.andi v8 c1_i32_4
  let c0_i32_299 : BitVec 32 := 0#32
  let c256_i32_300 : BitVec 32 := 256#32
  ![v9.toNat, 0, 256]
def k0_dev6 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_297 : BitVec 32 := 1#32
  let v610 : BitVec 32 := Scalar.muli v3 c1_i32_297
  let v611 : BitVec 32 := Scalar.addi c0_i32_298 v610
  v611.toNat
def k0_dev7 (d0 : Dev nD) : Nat :=
  let c0_i32_322 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_321 : BitVec 32 := 1#32
  let v636 : BitVec 32 := Scalar.muli v3 c1_i32_321
  let v637 : BitVec 32 := Scalar.addi c0_i32_322 v636
  v637.toNat
def k0_dev8 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_350 : BitVec 32 := 1#32
  let v668 : BitVec 32 := Scalar.muli v4 c1_i32_350
  let v669 : BitVec 32 := Scalar.addi c0_i32_351 v668
  v669.toNat
def k0_off25 (d0 : Dev nD) : Fin 3 → Nat :=
  let c1_i32_375 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v691 : BitVec 32 := Scalar.subi c1_i32_375 v7
  let v692 : Index := Scalar.indexCast v691
  let c0_376 : Index := 0#32
  let c0_377 : Index := 0#32
  ![v692.toNat, 0, 0]
def k0_off26 (d0 : Dev nD) : Fin 3 → Nat :=
  let c1_i32_395 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.shrsi v2 c1_i32_3
  let c1_i32_4 : BitVec 32 := 1#32
  let v9 : BitVec 32 := Scalar.andi v8 c1_i32_4
  let v707 : BitVec 32 := Scalar.subi c1_i32_395 v9
  let v708 : Index := Scalar.indexCast v707
  let c0_396 : Index := 0#32
  let c256_397 : Index := 256#32
  ![v708.toNat, 0, 256]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S_ : Shape := ⟨0, ![]⟩
abbrev S2x32x128x1 : Shape := ⟨4, ![2, 32, 128, 1]⟩
abbrev S2x32x128x128 : Shape := ⟨4, ![2, 32, 128, 128]⟩
abbrev S2x32x128 : Shape := ⟨3, ![2, 32, 128]⟩
abbrev S2x128x32x1 : Shape := ⟨4, ![2, 128, 32, 1]⟩
abbrev S2x32x64x128 : Shape := ⟨4, ![2, 32, 64, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2x128x32x64, .f32⟩
  | .hbm, ⟨3, _⟩ => ⟨S2x128x32x64, .f32⟩
  | .hbm, ⟨4, _⟩ => ⟨S2048x512, .f32⟩
  | .hbm, ⟨5, _⟩ => ⟨S2x128x2048, .f32⟩
  | .hbm, ⟨6, _⟩ => ⟨S2x128x32x64, .f32⟩
  | .hbm, ⟨7, _⟩ => ⟨S_, .f32⟩
  | .hbm, ⟨8, _⟩ => ⟨S2x128x32x64, .f32⟩
  | .hbm, ⟨9, _⟩ => ⟨S_, .f32⟩
  | .hbm, ⟨10, _⟩ => ⟨S2x32x128x1, .f32⟩
  | .hbm, ⟨11, _⟩ => ⟨S_, .f32⟩
  | .hbm, ⟨12, _⟩ => ⟨S2x32x128x1, .f32⟩
  | .hbm, ⟨13, _⟩ => ⟨S2x32x128x128, .f32⟩
  | .hbm, ⟨14, _⟩ => ⟨S_, .f32⟩
  | .hbm, ⟨15, _⟩ => ⟨S2x32x128x128, .f32⟩
  | .hbm, ⟨16, _⟩ => ⟨S2x32x128x128, .f32⟩
  | .hbm, ⟨17, _⟩ => ⟨S_, .f32⟩
  | .hbm, ⟨18, _⟩ => ⟨S2x32x128, .f32⟩
  | .hbm, ⟨19, _⟩ => ⟨S2x32x128x1, .f32⟩
  | .hbm, ⟨20, _⟩ => ⟨S2x32x128x1, .f32⟩
  | .hbm, ⟨21, _⟩ => ⟨S2x32x128x1, .f32⟩
  | .hbm, ⟨22, _⟩ => ⟨S2x32x128x1, .f32⟩
  | .hbm, ⟨23, _⟩ => ⟨S2x32x128x128, .f32⟩
  | .hbm, ⟨24, _⟩ => ⟨S2x32x128x128, .f32⟩
  | .hbm, ⟨25, _⟩ => ⟨S2x32x128x128, .f32⟩
  | .hbm, ⟨26, _⟩ => ⟨S2x32x128x1, .f32⟩
  | .hbm, ⟨27, _⟩ => ⟨S_, .f32⟩
  | .hbm, ⟨28, _⟩ => ⟨S2x32x128, .f32⟩
  | .hbm, ⟨29, _⟩ => ⟨S2x32x128x1, .f32⟩
  | .hbm, ⟨30, _⟩ => ⟨S2x32x128x1, .f32⟩
  | .hbm, ⟨31, _⟩ => ⟨S2x128x32x1, .f32⟩
  | .hbm, ⟨32, _⟩ => ⟨S2x128x32x64, .f32⟩
  | .hbm, ⟨33, _⟩ => ⟨S2x128x32x64, .f32⟩
  | .hbm, ⟨34, _⟩ => ⟨S2x32x64x128, .f32⟩
  | .hbm, ⟨35, _⟩ => ⟨S2x128x32x64, .f32⟩
  | .hbm, ⟨36, _⟩ => ⟨S2x128x32x64, .f32⟩
  | .hbm, ⟨37, _⟩ => ⟨S2x128x32x1, .f32⟩
  | .hbm, ⟨38, _⟩ => ⟨S2x128x32x64, .f32⟩
  | .hbm, ⟨39, _⟩ => ⟨S2x128x32x64, .f32⟩
  | .hbm, ⟨40, _⟩ => ⟨S2x128x2048, .f32⟩
  | .hbm, ⟨41, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Mesh.lean ====
/-
The four devices as a square, and the buffers in pieces.

Device `c` exchanges with `p1 c` (its neighbour in the pair) and with `p2 c` (its mirror image). It keeps, of the sum
over the devices, the left half of the columns of batch `ha c` and the right half of the columns of batch `hb c`; the
two other quarters reach it from `p1 c` and `p2 c`. The offsets the kernel computes are brought to this form, and the
rules for loads, stores and the joining of pieces are stated for memrefs owned slice by slice.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The square -/

/-- The neighbour in the pair: device numbers that differ in the low bit. -/
def p1 (c : Dev nD) : Dev nD := (![1, 0, 3, 2] : Fin 4 → Fin 4) c
/-- The mirror image: device numbers that add up to three. -/
def p2 (c : Dev nD) : Dev nD := (![3, 2, 1, 0] : Fin 4 → Fin 4) c
/-- The batch whose left half device `c` keeps. -/
def ha (c : Dev nD) : Fin 2 := (![0, 1, 1, 0] : Fin 4 → Fin 2) c
/-- The batch whose right half device `c` keeps. -/
def hb (c : Dev nD) : Fin 2 := (![0, 0, 1, 1] : Fin 4 → Fin 2) c
/-- The other batch. -/
def nb (b : Fin 2) : Fin 2 := (![1, 0] : Fin 2 → Fin 2) b

theorem p1_p1 (c : Dev nD) : p1 (p1 c) = c := by revert c; decide
theorem p2_p2 (c : Dev nD) : p2 (p2 c) = c := by revert c; decide
theorem p1_ne_p2 (c : Dev nD) : p1 c ≠ p2 c := by revert c; decide
theorem ha_p1 (c : Dev nD) : ha (p1 c) = nb (ha c) := by revert c; decide
theorem ha_p2 (c : Dev nD) : ha (p2 c) = ha c := by revert c; decide
theorem hb_p1 (c : Dev nD) : hb (p1 c) = hb c := by revert c; decide
theorem hb_p2 (c : Dev nD) : hb (p2 c) = nb (hb c) := by revert c; decide
theorem nb_nb (b : Fin 2) : nb (nb b) = b := by revert b; decide

/-! ## Where the pieces lie -/

/-- A batch of the sum. -/
abbrev oR (b : Fin 2) : Fin 3 → Nat := ![b.val, 0, 0]
/-- The left half of a batch's columns. -/
abbrev oA (b : Fin 2) : Fin 3 → Nat := ![b.val, 0, 0]
/-- The right half of a batch's columns. -/
abbrev oB (b : Fin 2) : Fin 3 → Nat := ![b.val, 0, 256]
/-- One head of a batch of the keys or values. -/
abbrev oH (b : Fin 2) (h : Fin 8) : Fin 4 → Nat := ![b.val, 0, h.val, 0]

theorem off1_eq (c : Dev nD) : k0_off1 c = oR (nb (ha c)) := by revert c; decide
theorem off2_eq (c : Dev nD) : k0_off2 c = oH (nb (ha c)) 0 := by revert c; decide
theorem off3_eq (c : Dev nD) : k0_off3 c = oH (nb (ha c)) 1 := by revert c; decide
theorem off4_eq (c : Dev nD) : k0_off4 c = oH (nb (ha c)) 2 := by revert c; decide
theorem off5_eq (c : Dev nD) : k0_off5 c = oH (nb (ha c)) 3 := by revert c; decide
theorem off6_eq (c : Dev nD) : k0_off6 c = oH (nb (ha c)) 4 := by revert c; decide
theorem off7_eq (c : Dev nD) : k0_off7 c = oH (nb (ha c)) 5 := by revert c; decide
theorem off8_eq (c : Dev nD) : k0_off8 c = oH (nb (ha c)) 6 := by revert c; decide
theorem off9_eq (c : Dev nD) : k0_off9 c = oH (nb (ha c)) 7 := by revert c; decide
theorem off10_eq (c : Dev nD) : k0_off10 c = oA (nb (ha c)) := by revert c; decide
theorem off11_eq (c : Dev nD) : k0_off11 c = oR (ha c) := by revert c; decide
theorem off12_eq (c : Dev nD) : k0_off12 c = oH (ha c) 0 := by revert c; decide
theorem off13_eq (c : Dev nD) : k0_off13 c = oH (ha c) 1 := by revert c; decide
theorem off14_eq (c : Dev nD) : k0_off14 c = oH (ha c) 2 := by revert c; decide
theorem off15_eq (c : Dev nD) : k0_off15 c = oH (ha c) 3 := by revert c; decide
theorem off16_eq (c : Dev nD) : k0_off16 c = oH (ha c) 4 := by revert c; decide
theorem off17_eq (c : Dev nD) : k0_off17 c = oH (ha c) 5 := by revert c; decide
theorem off18_eq (c : Dev nD) : k0_off18 c = oH (ha c) 6 := by revert c; decide
theorem off19_eq (c : Dev nD) : k0_off19 c = oH (ha c) 7 := by revert c; decide
theorem off20_eq (c : Dev nD) : k0_off20 c = oB (nb (hb c)) := by revert c; decide
theorem off21_eq (c : Dev nD) : k0_off21 c = oA (ha c) := by revert c; decide
theorem off22_eq (c : Dev nD) : k0_off22 c = oA (ha c) := by revert c; decide
theorem off23_eq (c : Dev nD) : k0_off23 c = oB (hb c) := by revert c; decide
theorem off24_eq (c : Dev nD) : k0_off24 c = oB (hb c) := by revert c; decide
theorem off25_eq (c : Dev nD) : k0_off25 c = oA (nb (ha c)) := by revert c; decide
theorem off26_eq (c : Dev nD) : k0_off26 c = oB (nb (hb c)) := by revert c; decide

theorem dev1_eq (c : Dev nD) : (⟨k0_dev1 c, k0_dev1_lt c⟩ : Dev nD) = p1 c := by revert c; decide
theorem dev2_eq (c : Dev nD) : (⟨k0_dev2 c, k0_dev2_lt c⟩ : Dev nD) = p2 c := by revert c; decide
theorem dev3_eq (c : Dev nD) : (⟨k0_dev3 c, k0_dev3_lt c⟩ : Dev nD) = p1 c := by revert c; decide
theorem dev4_eq (c : Dev nD) : (⟨k0_dev4 c, k0_dev4_lt c⟩ : Dev nD) = p2 c := by revert c; decide
theorem dev5_eq (c : Dev nD) : (⟨k0_dev5 c, k0_dev5_lt c⟩ : Dev nD) = p2 c := by revert c; decide
theorem dev6_eq (c : Dev nD) : (⟨k0_dev6 c, k0_dev6_lt c⟩ : Dev nD) = p1 c := by revert c; decide
theorem dev7_eq (c : Dev nD) : (⟨k0_dev7 c, k0_dev7_lt c⟩ : Dev nD) = p1 c := by revert c; decide
theorem dev8_eq (c : Dev nD) : (⟨k0_dev8 c, k0_dev8_lt c⟩ : Dev nD) = p2 c := by revert c; decide

theorem oR_inb (b : Fin 2) : ∀ a, oR b a + S1x128x512.size a ≤ S2x128x512.size a := by revert b; decide
theorem oA_inb (b : Fin 2) : ∀ a, oA b a + S1x128x256.size a ≤ S2x128x512.size a := by revert b; decide
theorem oB_inb (b : Fin 2) : ∀ a, oB b a + S1x128x256.size a ≤ S2x128x512.size a := by revert b; decide
theorem oH_inb (b : Fin 2) (h : Fin 8) : ∀ a, oH b h a + S1x128x1x64.size a ≤ S2x128x8x64.size a := by revert b h; decide

abbrev rR (b : Fin 2) : Rect S2x128x512 := Rect.unit (s := S2x128x512) (oR b) S1x128x512.size (oR_inb b)
abbrev rA (b : Fin 2) : Rect S2x128x512 := Rect.unit (s := S2x128x512) (oA b) S1x128x256.size (oA_inb b)
abbrev rB (b : Fin 2) : Rect S2x128x512 := Rect.unit (s := S2x128x512) (oB b) S1x128x256.size (oB_inb b)
abbrev rH (b : Fin 2) (h : Fin 8) : Rect S2x128x8x64 := Rect.unit (s := S2x128x8x64) (oH b h) S1x128x1x64.size (oH_inb b h)

/-! ## The memrefs -/

abbrev xM : Memref sig .tc .vmem S2x128x512 .f32 := Memref.whole cc0_stg0_0
abbrev wqM : Memref sig .tc .vmem S512x512 .f32 := Memref.whole cc0_stg1_0
abbrev woM : Memref sig .tc .vmem S512x512 .f32 := Memref.whole cc0_stg2_0
abbrev kM : Memref sig .tc .vmem S2x128x8x64 .f32 := Memref.whole cc0_stg3_0
abbrev vM : Memref sig .tc .vmem S2x128x8x64 .f32 := Memref.whole cc0_stg4_0
abbrev outM : Memref sig .tc .vmem S2x128x512 .f32 := Memref.whole cc0_stg5_0
abbrev accM : Memref sig .tc .vmem S2x128x512 .bf16 := Memref.whole cc0_scratch0
abbrev attnM : Memref sig .tc .vmem S128x512 .bf16 := Memref.whole cc0_scratch1
abbrev a1M : Memref sig .tc .vmem S1x128x256 .bf16 := Memref.whole cc0_scratch2
abbrev a2M : Memref sig .tc .vmem S1x128x256 .bf16 := Memref.whole cc0_scratch3
abbrev b1M : Memref sig .tc .vmem S1x128x256 .bf16 := Memref.whole cc0_scratch4
abbrev b2M : Memref sig .tc .vmem S1x128x256 .bf16 := Memref.whole cc0_scratch5
/-- A batch of the sum's buffer, and the left and right half of its columns. -/
abbrev accR (b : Fin 2) : Memref sig .tc .vmem S1x128x512 .bf16 := accM.slice (rR b) (fun _ => rfl)
abbrev accA (b : Fin 2) : Memref sig .tc .vmem S1x128x256 .bf16 := accM.slice (rA b) (fun _ => rfl)
abbrev accB (b : Fin 2) : Memref sig .tc .vmem S1x128x256 .bf16 := accM.slice (rB b) (fun _ => rfl)
abbrev outA (b : Fin 2) : Memref sig .tc .vmem S1x128x256 .f32 := outM.slice (rA b) (fun _ => rfl)
abbrev outB (b : Fin 2) : Memref sig .tc .vmem S1x128x256 .f32 := outM.slice (rB b) (fun _ => rfl)

theorem colA_inb : ∀ a, (![0, 0, 0] : Fin 3 → Nat) a + S1x128x256.size a ≤ S1x128x512.size a := by decide
theorem colB_inb : ∀ a, (![0, 0, 256] : Fin 3 → Nat) a + S1x128x256.size a ≤ S1x128x512.size a := by decide
abbrev cA : Rect S1x128x512 := Rect.unit (s := S1x128x512) ![0, 0, 0] S1x128x256.size colA_inb
abbrev cB : Rect S1x128x512 := Rect.unit (s := S1x128x512) ![0, 0, 256] S1x128x256.size colB_inb
/-- The left half of the columns of a row of contents. -/
def colA {V : Type} (w : S1x128x512.Idx → V) : S1x128x256.Idx → V := fun j => w (cA.emb j)
/-- The right half. -/
def colB {V : Type} (w : S1x128x512.Idx → V) : S1x128x256.Idx → V := fun j => w (cB.emb j)

theorem emb_colA (b : Fin 2) (j : S1x128x256.Idx) : (rR b).emb (cA.emb j) = (rA b).emb j := by
  funext a
  apply Fin.ext
  fin_cases a <;> simp [Rect.emb_apply] <;> omega
theorem emb_colB (b : Fin 2) (j : S1x128x256.Idx) : (rR b).emb (cB.emb j) = (rB b).emb j := by
  funext a
  apply Fin.ext
  fin_cases a <;> simp [Rect.emb_apply] <;> omega

end Cert.KProof
end
-- ==== Proof.Pieces.lean ====
/-
Loads, stores and joins for memrefs owned at named contents.

A load of a rectangle of a memref owned at `X` reads `X` on the rectangle; a load or store of a whole slice that is owned
by itself reads or replaces its contents. A memref is the conjunction of the slices of a disjoint covering family.
-/
module

public import proofs.«01_k».proof.Proof.Mesh

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds and the exchange's. -/
abbrev UB : Type := URounds (GSem nD τ sig) Bool
abbrev UU : Type := UR sig nD τ × UB

local notation "𝕄" => MT nD τ sig Unit (Elt F) ℕ UU ℕ

abbrev 𝒱₀ : Variants := Variants.none

/-- Device `c` owns the memref whole at contents `X`. -/
abbrev own (c : Dev nD) {s : Shape} {e : EltTy} (m : Memref sig .tc .vmem s e) (X : s.Idx → Elt F e) : sProp 𝕄 :=
  owns (Ix := Unit) (Name := ℕ) (U := UU) (Lvl := ℕ) (c.tc : Thread nD τ) m fullShare X

section Rules

variable {c : Dev nD} {s : Shape} {e : EltTy} {α : Type}

/-- Loading a rectangle of a memref owned at `X`. -/
theorem ld_part {Q : α → sProp 𝕄} (m : Memref sig .tc .vmem s e) {q : PosShare TreeShare} {X : s.Idx → Elt F e}
    {o : Fin s.rank → ℕ} (o' : Fin s.rank → ℕ) {sz : Fin s.rank → ℕ} {hb : ∀ a, o a + sz a ≤ s.size a} {hb' : ∀ a, o' a + sz a ≤ s.size a}
    (ho : o = o') {hl : m.view.LoadsAt (Rect.unit o sz hb).toLoadRect}
    {k : ((Rect.unit o sz hb).shape.Idx → Elt F e) → Prog (TpuEff nD τ sig (Elt F) Λ₀ .tc) α} :
    (owns (c.tc : Thread nD τ) m q X : sProp 𝕄)
      ⊢ iprop((owns (c.tc : Thread nD τ) m q X -∗ wp frame (wpE (defs₀ (F := F)) 𝒱₀ (c.tc : Thread nD τ) none) Set.univ
            (k (fun j => X ((Rect.unit o' sz hb').emb j))) Q)
          -∗ wp frame (wpE (defs₀ (F := F)) 𝒱₀ (c.tc : Thread nD τ) none) Set.univ (.op (.load m (Rect.unit o sz hb).toLoadRect hl) k) Q) := by
  subst ho
  unfold owns
  iintro ⟨%f, %hf, H⟩ Hk
  iapply (wp_load 𝒱₀ (c.tc : Thread nD τ) none Set.univ (m := m) (View.setOn_subset_set _ _)) $$ H
  iintro H
  subst hf
  iapply Hk
  iexists f
  isplitr; · ipureintro; rfl
  iexact H

/-- Loading all of a memref. -/
theorem ld_full {Q : α → sProp 𝕄} (m : Memref sig .tc .vmem s e) {q : PosShare TreeShare} {X : s.Idx → Elt F e}
    {o : Fin s.rank → ℕ} {hb : ∀ a, o a + s.size a ≤ s.size a}
    (ho : o = fun _ => 0) {hl : m.view.LoadsAt (Rect.unit o s.size hb).toLoadRect}
    {k : ((Rect.unit o s.size hb).shape.Idx → Elt F e) → Prog (TpuEff nD τ sig (Elt F) Λ₀ .tc) α} :
    (owns (c.tc : Thread nD τ) m q X : sProp 𝕄)
      ⊢ iprop((owns (c.tc : Thread nD τ) m q X -∗ wp frame (wpE (defs₀ (F := F)) 𝒱₀ (c.tc : Thread nD τ) none) Set.univ (k X) Q)
          -∗ wp frame (wpE (defs₀ (F := F)) 𝒱₀ (c.tc : Thread nD τ) none) Set.univ (.op (.load m (Rect.unit o s.size hb).toLoadRect hl) k) Q) := by
  have h := ld_part (F := F) (c := c) (Q := Q) m (q := q) (X := X) (o' := o) (hb' := hb) rfl (hl := hl) (k := k)
  have hX : (fun j => X ((Rect.unit o s.size hb).emb j)) = X := by
    funext j
    exact congrArg X (funext fun a => Fin.ext (by rw [Rect.emb_apply]; subst ho; simp))
  rw [hX] at h
  exact h

/-- Loading a slice that is owned by itself. -/
theorem ld_slice {Q : α → sProp 𝕄} (m : Memref sig .tc .vmem s e) {q : PosShare TreeShare}
    {o : Fin s.rank → ℕ} (o' : Fin s.rank → ℕ) {sz : Fin s.rank → ℕ} {hb : ∀ a, o a + sz a ≤ s.size a} {hb' : ∀ a, o' a + sz a ≤ s.size a}
    (ho : o = o') {hr : ∀ a, (Rect.unit o' sz hb').stride a = 1} {v : (Rect.unit o' sz hb').shape.Idx → Elt F e} {hl : m.view.LoadsAt (Rect.unit o sz hb).toLoadRect}
    {k : ((Rect.unit o sz hb).shape.Idx → Elt F e) → Prog (TpuEff nD τ sig (Elt F) Λ₀ .tc) α} :
    (owns (c.tc : Thread nD τ) (m.slice (Rect.unit o' sz hb') hr) q v : sProp 𝕄)
      ⊢ iprop((owns (c.tc : Thread nD τ) (m.slice (Rect.unit o' sz hb') hr) q v -∗ wp frame (wpE (defs₀ (F := F)) 𝒱₀ (c.tc : Thread nD τ) none) Set.univ
            (k v) Q)
          -∗ wp frame (wpE (defs₀ (F := F)) 𝒱₀ (c.tc : Thread nD τ) none) Set.univ (.op (.load m (Rect.unit o sz hb).toLoadRect hl) k) Q) := by
  subst ho
  unfold owns
  iintro ⟨%f, %hf, H⟩ Hk
  iapply (wp_load_rect 𝒱₀ (c.tc : Thread nD τ) none Set.univ (m := m) (r := Rect.unit o sz hb) (Finset.Subset.refl _)) $$ H
  iintro H
  subst hf
  iapply Hk
  iexists f
  isplitr; · ipureintro; rfl
  iexact H

/-- Storing a slice that is owned by itself. -/
theorem st_slice {Q : α → sProp 𝕄} (m : Memref sig .tc .vmem s e)
    {o : Fin s.rank → ℕ} (o' : Fin s.rank → ℕ) {sz : Fin s.rank → ℕ} {hb : ∀ a, o a + sz a ≤ s.size a} {hb' : ∀ a, o' a + sz a ≤ s.size a}
    (ho : o = o') {hr : ∀ a, (Rect.unit o' sz hb').stride a = 1} {v : (Rect.unit o' sz hb').shape.Idx → Elt F e}
    {w : (Rect.unit o sz hb).shape.Idx → Elt F e}
    {hx : (m.access (Rect.unit o sz hb)).Stores Finset.univ} {hm}
    {k : PUnit → Prog (TpuEff nD τ sig (Elt F) Λ₀ .tc) α} :
    (owns (c.tc : Thread nD τ) (m.slice (Rect.unit o' sz hb') hr) fullShare v : sProp 𝕄)
      ⊢ iprop((owns (c.tc : Thread nD τ) (m.slice (Rect.unit o' sz hb') hr) fullShare w -∗ wp frame (wpE (defs₀ (F := F)) 𝒱₀ (c.tc : Thread nD τ) none) Set.univ
            (k ⟨⟩) Q)
          -∗ wp frame (wpE (defs₀ (F := F)) 𝒱₀ (c.tc : Thread nD τ) none) Set.univ (.op (.store m (Rect.unit o sz hb) w Finset.univ hx hm) k) Q) := by
  subst ho
  unfold owns
  iintro ⟨%f, %hf, H⟩ Hk
  iapply (wp_store 𝒱₀ (c.tc : Thread nD τ) none Set.univ (m := m) (r := Rect.unit o sz hb) (Mk := Finset.univ) (View.setOn_subset_set _ _)) $$ H
  iintro H
  iapply Hk
  iexists ((m.access (Rect.unit o sz hb)).write (Elt F) f w Finset.univ)
  isplitr
  · ipureintro; exact View.read_write_univ (v := m.access (Rect.unit o sz hb)) f w
  iexact H

end Rules

/-! ## Joining slices -/

section Glue

variable {c : Dev nD} {s : Shape} {e : EltTy} {T : Type} [Fintype T] [DecidableEq T]

/-- Contents on a disjoint family of rectangles are those of one function. -/
theorem glue_fun {V : Type} [Nonempty V] (r : T → Rect s) (hd : ∀ t t', t ≠ t' → Disjoint (r t).set (r t').set)
    (v : ∀ t, (r t).shape.Idx → V) : ∃ X : s.Idx → V, ∀ t, (fun j => X ((r t).emb j)) = v t := by
  classical
  refine ⟨fun i => if h : ∃ t j, (r t).emb j = i then v h.choose h.choose_spec.choose else Classical.arbitrary V, fun t => funext fun j => ?_⟩
  have h : ∃ t' j', (r t').emb j' = (r t).emb j := ⟨t, j, rfl⟩
  show (if h : _ then _ else _) = _
  rw [dif_pos h]
  generalize hj' : h.choose_spec.choose = j'
  have he := h.choose_spec.choose_spec
  rw [hj'] at he
  clear hj'
  generalize h.choose = t' at j' he
  have ht : t' = t := by
    by_contra hne
    have hm : ∀ t (j : (r t).shape.Idx), (r t).emb j ∈ (r t).set := fun t j => by
      rw [← Rect.map_emb_univ]; exact Finset.mem_map_of_mem _ (Finset.mem_univ j)
    exact Finset.disjoint_left.mp (hd t' t hne) (hm t' j') (he ▸ hm t j)
  subst ht
  rw [(r t').emb.injective he]

/-- A memref owned at some contents is its slices owned at their parts. -/
theorem own_cut (m : Memref sig .tc .vmem s e) (r : T → Rect s) (hr : ∀ t a, (r t).stride a = 1)
    (hd : ∀ t t', t ≠ t' → Disjoint (r t).set (r t').set) (hc : (Finset.univ : Finset T).biUnion (fun t => (r t).set) = Finset.univ)
    (X : s.Idx → Elt F e) :
    (own c m X : sProp 𝕄) ⊢ bigSep Finset.univ fun t => own c (m.slice (r t) (hr t)) (fun j => X ((r t).emb j)) :=
  owns_rects (c.tc : Thread nD τ) m fullShare r hr hd hc X

/-- Slices owned at any contents are the memref owned at contents with those parts. -/
theorem own_glue (m : Memref sig .tc .vmem s e) (r : T → Rect s) (hr : ∀ t a, (r t).stride a = 1)
    (hd : ∀ t t', t ≠ t' → Disjoint (r t).set (r t').set) (hc : (Finset.univ : Finset T).biUnion (fun t => (r t).set) = Finset.univ)
    (v : ∀ t, (r t).shape.Idx → Elt F e) :
    bigSep Finset.univ (fun t => (own c (m.slice (r t) (hr t)) (v t) : sProp 𝕄))
      ⊢ iprop(∃ X : s.Idx → Elt F e, ⌜∀ t, (fun j => X ((r t).emb j)) = v t⌝ ∗ own c m X) := by
  obtain ⟨X, hX⟩ := glue_fun r hd v
  rw [bigSep_congr (fun t _ => show own c (m.slice (r t) (hr t)) (v t) = own c (m.slice (r t) (hr t)) (fun j => X ((r t).emb j)) by rw [hX t])]
  iintro H
  iexists X
  isplitr; · ipureintro; exact hX
  iapply (owns_of_rects (c.tc : Thread nD τ) m fullShare r hr hd hc X)
  iexact H

end Glue

end Cert.KProof
end
-- ==== Proof.Values.lean ====
/-
What each device computes, by name.

From its own arguments a device computes, for each batch, eight heads and from them its part of the output projection
(`rowF` for the batch it starts with, `rowS` for the other). The parts are then added over the four devices in two
steps, the left and the right half of the columns in opposite orders (`A1`, `A2`, `B1`, `B2`), and the four quarters
make up the result (`outC`).
-/
module

public import proofs.«01_k».proof.Proof.Pieces

@[expose] public section

set_option maxRecDepth 16384

noncomputable section

namespace Cert.KProof

open Cert.KernelIdeal Cert.KernelIdeal.Gen
open Idealize.ShloMosaic Idealize.ShloMosaic.TcCoe

variable {F : FTy → Type} [FloatOps F]

/-- A device's arguments: the input, its columns of the query projection, its rows of the output projection, its heads
    of the keys and of the values. -/
structure Ins (F : FTy → Type) [FloatOps F] where
  x : S2x128x512.Idx → Elt F .f32
  wq : S512x512.Idx → Elt F .f32
  wo : S512x512.Idx → Elt F .f32
  k : S2x128x8x64.Idx → Elt F .f32
  v : S2x128x8x64.Idx → Elt F .f32

/-! ## The eight heads side by side -/

abbrev oS (h : Fin 8) : Fin 2 → Nat := ![0, 64 * h.val]
theorem oS_inb (h : Fin 8) : ∀ a, oS h a + S128x64.size a ≤ S128x512.size a := by revert h; decide
abbrev rS (h : Fin 8) : Rect S128x512 := Rect.unit (s := S128x512) (oS h) S128x64.size (oS_inb h)
abbrev attnS (h : Fin 8) : Memref sig .tc .vmem S128x64 .bf16 := attnM.slice (rS h) (fun _ => rfl)

theorem rS_disj (h h' : Fin 8) (hne : h ≠ h') : Disjoint (rS h).set (rS h').set := by
  rw [Finset.disjoint_left]
  intro i hi hi'
  rw [Rect.mem_set_unit] at hi hi'
  have h1 := hi 1
  have h2 := hi' 1
  simp only [Matrix.cons_val_one, Matrix.cons_val_zero, show S128x64.size 1 = 64 from rfl] at h1 h2
  exact hne (Fin.ext (by omega))

theorem rS_cover : (Finset.univ : Finset (Fin 8)).biUnion (fun h => (rS h).set) = Finset.univ := by
  ext i
  simp only [Finset.mem_biUnion, Finset.mem_univ, true_and, iff_true]
  have hi1 : (i 1).val < 512 := (i 1).isLt
  have hi0 : (i 0).val < 128 := (i 0).isLt
  refine ⟨⟨(i 1).val / 64, by omega⟩, ?_⟩
  rw [Rect.mem_set_unit]
  intro a
  fin_cases a
  · exact ⟨Nat.zero_le _, by simpa using hi0⟩
  · constructor
    · show 64 * ((i 1).val / 64) ≤ (i 1).val
      omega
    · show (i 1).val < 64 * ((i 1).val / 64) + 64
      omega

theorem exists_attn {V : Type} (hd : Fin 8 → S128x64.Idx → V) :
    ∃ X : S128x512.Idx → V, ∀ h, (fun j => X ((rS h).emb j)) = hd h := by
  haveI : Nonempty V := ⟨hd 0 (fun a => ⟨0, by revert a; decide⟩)⟩
  exact glue_fun rS rS_disj hd

/-- Eight heads side by side. -/
def attnOf {V : Type} (hd : Fin 8 → S128x64.Idx → V) : S128x512.Idx → V := (exists_attn hd).choose
theorem attnOf_emb {V : Type} (hd : Fin 8 → S128x64.Idx → V) (h : Fin 8) :
    (fun j => attnOf hd ((rS h).emb j)) = hd h := (exists_attn hd).choose_spec h
theorem eq_attnOf {V : Type} (hd : Fin 8 → S128x64.Idx → V) (X : S128x512.Idx → V)
    (hX : ∀ h, (fun j => X ((rS h).emb j)) = hd h) : X = attnOf hd := by
  funext i
  obtain ⟨h, -, hi⟩ := Finset.mem_biUnion.mp (rS_cover.symm ▸ Finset.mem_univ i)
  obtain ⟨j, rfl⟩ := (rS h).exists_idx_of_mem hi
  exact (congrFun (hX h) j).trans (congrFun (attnOf_emb hd h) j).symm

/-! ## A device's part -/

section Part

variable (I : Ins F) (b : Fin 2)

/-- A batch of the input, and one head of a batch of the keys and of the values. -/
def xRow : S1x128x512.Idx → Elt F .f32 := fun j => I.x ((rR b).emb j)
def kHd (h : Fin 8) : S1x128x1x64.Idx → Elt F .f32 := fun j => I.k ((rH b h).emb j)
def vHd (h : Fin 8) : S1x128x1x64.Idx → Elt F .f32 := fun j => I.v ((rH b h).emb j)

/-- The queries, as the first and as the second round of heads reads them. -/
def qF : S128x512.Idx → Elt F .bf16 := k0_pay3 I.wq (xRow I b)
def qS : S128x512.Idx → Elt F .bf16 := k0_pay27 (k0_pay1 I.wq) (xRow I b)

/-- The heads of the first round. -/
def headF : Fin 8 → S128x64.Idx → Elt F .bf16
  | 0 => k0_pay6 (k0_pay4 (vHd I b 0)) (k0_pay5 I.wq (xRow I b) (kHd I b 0))
  | 1 => k0_pay11 (k0_pay7 (vHd I b 1)) (k0_pay9 (qF I b) (kHd I b 1)) (k0_pay10 (qF I b) (kHd I b 1)) (constant S128x64 .f32 0x00000000#32)
  | 2 => k0_pay12 (qF I b) (kHd I b 2) (vHd I b 2)
  | 3 => k0_pay14 (k0_pay13 (qF I b)) (kHd I b 3) (vHd I b 3)
  | 4 => k0_pay18 (k0_pay15 (qF I b)) (k0_pay16 (kHd I b 4)) (k0_pay17 (vHd I b 4))
  | 5 => k0_pay21 (k0_pay19 (vHd I b 5)) (k0_pay20 (qF I b) (kHd I b 5))
  | 6 => k0_pay23 (k0_pay22 (qF I b) (kHd I b 6) (vHd I b 6))
  | 7 => k0_pay24 (qF I b) (kHd I b 7) (vHd I b 7)

/-- The heads of the second round. -/
def headS : Fin 8 → S128x64.Idx → Elt F .bf16
  | 0 => k0_pay30 (k0_pay28 (k0_pay1 I.wq) (xRow I b)) (k0_pay29 (kHd I b 0)) (vHd I b 0)
  | 1 => k0_pay33 (k0_pay31 (vHd I b 1)) (k0_pay32 (qS I b) (kHd I b 1))
  | 2 => k0_pay35 (k0_pay34 (qS I b) (kHd I b 2) (vHd I b 2))
  | 3 => k0_pay36 (qS I b) (kHd I b 3) (vHd I b 3)
  | 4 => k0_pay39 (k0_pay37 (qS I b)) (k0_pay38 (kHd I b 4)) (vHd I b 4)
  | 5 => k0_pay42 (k0_pay40 (vHd I b 5)) (k0_pay41 (qS I b) (kHd I b 5))
  | 6 => k0_pay46 (k0_pay44 (qS I b) (kHd I b 6) (vHd I b 6)) (k0_pay45 (qS I b) (kHd I b 6))
  | 7 => k0_pay47 (qS I b) (kHd I b 7) (vHd I b 7)

/-- The device's part of the output projection of batch `b`, in the first and in the second round. -/
def rowF : S1x128x512.Idx → Elt F .bf16 := k0_pay26 (k0_pay25 (k0_pay2 I.wo) (attnOf (headF I b)))
def rowS : S1x128x512.Idx → Elt F .bf16 := k0_pay49 (k0_pay48 (k0_pay2 I.wo) (attnOf (headS I b)))

end Part

/-! ## The sums over the devices -/

section Sums

variable (J : Dev nD → Ins F)

/-- Device `c`'s part of batch `b`. -/
def prt (c : Dev nD) (b : Fin 2) : S1x128x512.Idx → Elt F .bf16 := if b = ha c then rowS (J c) b else rowF (J c) b

theorem prt_ha (c : Dev nD) : prt J c (ha c) = rowS (J c) (ha c) := if_pos rfl
theorem nb_ne (b : Fin 2) : nb b ≠ b := by revert b; decide
theorem prt_nb (c : Dev nD) : prt J c (nb (ha c)) = rowF (J c) (nb (ha c)) := if_neg (nb_ne _)

/-- The left half of batch `ha c` after the first addition and after the second. -/
def A1 (c : Dev nD) : S1x128x256.Idx → Elt F .bf16 := k0_pay51 (k0_pay50 (colA (prt J c (ha c))) (colA (prt J (p1 c) (ha c))))
def A2 (c : Dev nD) : S1x128x256.Idx → Elt F .bf16 := k0_pay53 (A1 J c) (A1 J (p2 c))
/-- The right half of batch `hb c` after the first addition and after the second. -/
def B1 (c : Dev nD) : S1x128x256.Idx → Elt F .bf16 := k0_pay52 (colB (prt J c (hb c))) (colB (prt J (p2 c) (hb c)))
def B2 (c : Dev nD) : S1x128x256.Idx → Elt F .bf16 := k0_pay55 (B1 J c) (B1 J (p1 c))

/-- The quarters of a buffer of the result's shape: a half of the columns of a batch. -/
abbrev oQ (t : Bool × Fin 2) : Fin 3 → Nat := ![t.2.val, 0, cond t.1 256 0]
theorem oQ_inb (t : Bool × Fin 2) : ∀ a, oQ t a + S1x128x256.size a ≤ S2x128x512.size a := by revert t; decide
abbrev rQ (t : Bool × Fin 2) : Rect S2x128x512 := Rect.unit (s := S2x128x512) (oQ t) S1x128x256.size (oQ_inb t)

theorem rQ_disj (t t' : Bool × Fin 2) (hne : t ≠ t') : Disjoint (rQ t).set (rQ t').set := by
  rw [Finset.disjoint_left]
  intro i hi hi'
  rw [Rect.mem_set_unit] at hi hi'
  have h1 := hi 0
  have h2 := hi' 0
  have h3 := hi 2
  have h4 := hi' 2
  obtain ⟨s, b⟩ := t
  obtain ⟨s', b'⟩ := t'
  simp only [Matrix.cons_val, show S1x128x256.size 0 = 1 from rfl, show S1x128x256.size 2 = 256 from rfl] at h1 h2 h3 h4
  have hb : b = b' := Fin.ext (by omega)
  subst hb
  cases s <;> cases s' <;> simp_all <;> omega

theorem rQ_cover : (Finset.univ : Finset (Bool × Fin 2)).biUnion (fun h => (rQ h).set) = Finset.univ := by
  ext i
  simp only [Finset.mem_biUnion, Finset.mem_univ, true_and, iff_true]
  have hi0 : (i 0).val < 2 := (i 0).isLt
  have hi1 : (i 1).val < 128 := (i 1).isLt
  have hi2 : (i 2).val < 512 := (i 2).isLt
  by_cases h : (i 2).val < 256
  · refine ⟨(false, ⟨(i 0).val, hi0⟩), ?_⟩
    rw [Rect.mem_set_unit]
    intro a
    fin_cases a
    · exact ⟨le_refl _, Nat.lt_succ_self _⟩
    · exact ⟨Nat.zero_le _, by simpa using hi1⟩
    · exact ⟨Nat.zero_le _, by simpa using h⟩
  · refine ⟨(true, ⟨(i 0).val, hi0⟩), ?_⟩
    rw [Rect.mem_set_unit]
    intro a
    fin_cases a
    · exact ⟨le_refl _, Nat.lt_succ_self _⟩
    · exact ⟨Nat.zero_le _, by simpa using hi1⟩
    · exact ⟨not_lt.mp h, by simpa using hi2⟩

/-- The quarters of device `c`'s result. -/
def outQ (c : Dev nD) : Bool × Fin 2 → S1x128x256.Idx → Elt F .f32
  | (false, b) => if b = ha c then k0_pay54 (A2 J c) else k0_pay57 (A2 J (p1 c))
  | (true, b) => if b = hb c then k0_pay56 (B2 J c) else k0_pay58 (B2 J (p2 c))

theorem exists_quarters {V : Type} (v : Bool × Fin 2 → S1x128x256.Idx → V) :
    ∃ X : S2x128x512.Idx → V, ∀ t, (fun j => X ((rQ t).emb j)) = v t := by
  haveI : Nonempty V := ⟨v (false, 0) (fun a => ⟨0, by revert a; decide⟩)⟩
  exact glue_fun rQ rQ_disj v

/-- Device `c`'s result. -/
def outC (c : Dev nD) : S2x128x512.Idx → Elt F .f32 := (exists_quarters (outQ J c)).choose
theorem outC_emb (c : Dev nD) (t : Bool × Fin 2) : (fun j => outC J c ((rQ t).emb j)) = outQ J c t :=
  (exists_quarters (outQ J c)).choose_spec t
theorem eq_outC (c : Dev nD) (X : S2x128x512.Idx → Elt F .f32) (hX : ∀ t, (fun j => X ((rQ t).emb j)) = outQ J c t) : X = outC J c := by
  funext i
  obtain ⟨t, -, hi⟩ := Finset.mem_biUnion.mp (rQ_cover.symm ▸ Finset.mem_univ i)
  obtain ⟨j, rfl⟩ := (rQ t).exists_idx_of_mem hi
  exact (congrFun (hX t) j).trans (congrFun (outC_emb J c t) j).symm

end Sums

end Cert.KProof
end
-- ==== Proof.Compute.lean ====
/-
The two rounds of heads, part by part of the body.

Each lemma runs one part of the body at a device `c` with arguments `I`: what it needs, what it leaves, and what it
returns. `attnS h` is the place of head `h` in the buffer of heads.
-/
module

public import proofs.«01_k».proof.Proof.Values

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {α : Type} {c : Dev nD} (I : Ins F)

/-- The buffer of heads is its eight places. -/
theorem own_attn (hd : Fin 8 → S128x64.Idx → Elt F .bf16) :
    (own c (attnS 0) (hd 0) ∗ own c (attnS 1) (hd 1) ∗ own c (attnS 2) (hd 2) ∗ own c (attnS 3) (hd 3)
      ∗ own c (attnS 4) (hd 4) ∗ own c (attnS 5) (hd 5) ∗ own c (attnS 6) (hd 6) ∗ own c (attnS 7) (hd 7) : sProp 𝕄)
      ⊢ own c attnM (attnOf hd) := by
  have h := own_glue (F := F) (c := c) attnM rS (fun _ _ => rfl) rS_disj rS_cover hd
  rw [bigSep_univ_eq_bigSepL [0, 1, 2, 3, 4, 5, 6, 7] (by decide) (by decide)] at h
  simp only [bigSepL_cons_cons, bigSepL_singleton] at h
  refine h.trans ?_
  iintro ⟨%X, %hX, H⟩
  rw [eq_attnOf hd X hX]
  iexact H

/-- The buffer of heads cut into its eight places. -/
theorem attn_own (X : S128x512.Idx → Elt F .bf16) :
    (own c attnM X : sProp 𝕄) ⊢ iprop(∃ w0, ∃ w1, ∃ w2, ∃ w3, ∃ w4, ∃ w5, ∃ w6, ∃ w7,
      own c (attnS 0) w0 ∗ own c (attnS 1) w1 ∗ own c (attnS 2) w2 ∗ own c (attnS 3) w3
      ∗ own c (attnS 4) w4 ∗ own c (attnS 5) w5 ∗ own c (attnS 6) w6 ∗ own c (attnS 7) w7) := by
  have h := own_cut (F := F) (c := c) attnM rS (fun _ _ => rfl) rS_disj rS_cover X
  rw [bigSep_univ_eq_bigSepL [0, 1, 2, 3, 4, 5, 6, 7] (by decide) (by decide)] at h
  simp only [bigSepL_cons_cons, bigSepL_singleton] at h
  have h' : (own c attnM X : sProp 𝕄) ⊢ iprop(own c (attnS 0) (fun j => X ((rS 0).emb j)) ∗ own c (attnS 1) (fun j => X ((rS 1).emb j)) ∗ own c (attnS 2) (fun j => X ((rS 2).emb j)) ∗ own c (attnS 3) (fun j => X ((rS 3).emb j)) ∗ own c (attnS 4) (fun j => X ((rS 4).emb j)) ∗ own c (attnS 5) (fun j => X ((rS 5).emb j)) ∗ own c (attnS 6) (fun j => X ((rS 6).emb j)) ∗ own c (attnS 7) (fun j => X ((rS 7).emb j))) := h
  refine h'.trans ?_
  iintro H
  iexists (fun j => X ((rS 0).emb j)), (fun j => X ((rS 1).emb j)), (fun j => X ((rS 2).emb j)), (fun j => X ((rS 3).emb j)), (fun j => X ((rS 4).emb j)), (fun j => X ((rS 5).emb j)), (fun j => X ((rS 6).emb j)), (fun j => X ((rS 7).emb j))
  iexact H

/-- The loads before the first head. -/
theorem part1_spec {Q : α → sProp 𝕄} {k : (Σ' (d0 : Dev nD) (v3 : BitVec 32) (v4 : BitVec 32) (v7 : BitVec 32) (v9 : BitVec 32) (v12 : FVec F S512x512 .bf16) (v15 : FVec F S512x512 .bf16) (v16 : BitVec 32) (v23 : FVec F S128x512 .bf16) (v34 : FVec F S128x64 .bf16), FVec F S128x128 .f32) → Prog (TpuEff nD τ sig (Elt F) Λ₀ .tc) α} :
    (own c xM I.x ∗ own c wqM I.wq ∗ own c woM I.wo ∗ own c kM I.k ∗ own c vM I.v : sProp 𝕄)
      ⊢ iprop((∀ v3 v4 v7 v9 v16, (own c xM I.x ∗ own c wqM I.wq ∗ own c woM I.wo ∗ own c kM I.k ∗ own c vM I.v) -∗ wp frame (wpE (defs₀ (F := F)) 𝒱₀ (c.tc : Thread nD τ) none) Set.univ (k ⟨c, v3, v4, v7, v9, k0_pay1 I.wq, k0_pay2 I.wo, v16, (qF I (nb (ha c))), k0_pay4 (vHd I (nb (ha c)) 0), k0_pay5 I.wq (xRow I (nb (ha c))) (kHd I (nb (ha c)) 0)⟩) Q)
          -∗ wp frame (wpE (defs₀ (F := F)) 𝒱₀ (c.tc : Thread nD τ) none) Set.univ (k0_part1 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7  >>= k) Q) := by
  simp only [k0_part1_eq_skeleton, k0_part1_skel, Prog.lift, Prog.bind_op, Prog.bind_ret, Prog.pure_eq_ret, wp_deviceId]
  iintro ⟨HX, HWq, HWo, HK, HV⟩ Hk
  iapply (ld_full wqM (by decide)) $$ HWq; iintro HWq
  iapply (ld_full woM (by decide)) $$ HWo; iintro HWo
  iapply (ld_part xM (oR (nb (ha c))) (off1_eq c)) $$ HX; iintro HX
  iapply (ld_part kM (oH (nb (ha c)) 0) (off2_eq c)) $$ HK; iintro HK
  iapply (ld_part vM (oH (nb (ha c)) 0) (off2_eq c)) $$ HV; iintro HV
  iapply Hk $$ [HX HWq HWo HK HV]
  isplitl [HX]; · iexact HX
  isplitl [HWq]; · iexact HWq
  isplitl [HWo]; · iexact HWo
  isplitl [HK]; · iexact HK
  iexact HV

/-- Head 0. -/
theorem part2_spec {Q : α → sProp 𝕄} {k : (Σ' (v65 : FVec F S128x64 .bf16) (v75 : FVec F S128x1 .f32) (v76 : FVec F S128x128 .bf16), FVec F S128x64 .f32) → Prog (TpuEff nD τ sig (Elt F) Λ₀ .tc) α} {v16 : BitVec 32} {w0 : S128x64.Idx → Elt F .bf16} :
    (own c kM I.k ∗ own c vM I.v ∗ own c (attnS 0) w0 : sProp 𝕄)
      ⊢ iprop(((own c kM I.k ∗ own c vM I.v ∗ own c (attnS 0) (headF I (nb (ha c)) 0)) -∗ wp frame (wpE (defs₀ (F := F)) 𝒱₀ (c.tc : Thread nD τ) none) Set.univ (k ⟨k0_pay7 (vHd I (nb (ha c)) 1), k0_pay9 (qF I (nb (ha c))) (kHd I (nb (ha c)) 1), k0_pay10 (qF I (nb (ha c))) (kHd I (nb (ha c)) 1), constant S128x64 .f32 0x00000000#32⟩) Q)
          -∗ wp frame (wpE (defs₀ (F := F)) 𝒱₀ (c.tc : Thread nD τ) none) Set.univ (k0_part2 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v16 (qF I (nb (ha c))) (k0_pay4 (vHd I (nb (ha c)) 0)) (k0_pay5 I.wq (xRow I (nb (ha c))) (kHd I (nb (ha c)) 0)) >>= k) Q) := by
  simp only [k0_part2_eq_skeleton, k0_part2_skel, Prog.lift, Prog.bind_op, Prog.bind_ret, Prog.pure_eq_ret]
  iintro ⟨HK, HV, HS0⟩ Hk
  iapply (ld_slice attnM (oS 0) rfl) $$ HS0; iintro HS0
  iapply (st_slice attnM (oS 0) rfl) $$ HS0; iintro HS0
  iapply (ld_part kM (oH (nb (ha c)) 1) (off3_eq c)) $$ HK; iintro HK
  iapply (ld_part vM (oH (nb (ha c)) 1) (off3_eq c)) $$ HV; iintro HV
  iapply Hk $$ [HK HV HS0]
  isplitl [HK]; · iexact HK
  isplitl [HV]; · iexact HV
  iexact HS0

/-- Heads 1 and 2. -/
theorem part3_spec {Q : α → sProp 𝕄} {k : (FVec F S128x64 .bf16) → Prog (TpuEff nD τ sig (Elt F) Λ₀ .tc) α} {v16 : BitVec 32} {w1 : S128x64.Idx → Elt F .bf16} {w2 : S128x64.Idx → Elt F .bf16} :
    (own c kM I.k ∗ own c vM I.v ∗ own c (attnS 1) w1 ∗ own c (attnS 2) w2 : sProp 𝕄)
      ⊢ iprop(((own c kM I.k ∗ own c vM I.v ∗ own c (attnS 1) (headF I (nb (ha c)) 1) ∗ own c (attnS 2) (headF I (nb (ha c)) 2)) -∗ wp frame (wpE (defs₀ (F := F)) 𝒱₀ (c.tc : Thread nD τ) none) Set.univ (k (k0_pay13 (qF I (nb (ha c))))) Q)
          -∗ wp frame (wpE (defs₀ (F := F)) 𝒱₀ (c.tc : Thread nD τ) none) Set.univ (k0_part3 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v16 (qF I (nb (ha c))) (k0_pay7 (vHd I (nb (ha c)) 1)) (k0_pay9 (qF I (nb (ha c))) (kHd I (nb (ha c)) 1)) (k0_pay10 (qF I (nb (ha c))) (kHd I (nb (ha c)) 1)) (constant S128x64 .f32 0x00000000#32) >>= k) Q) := by
  simp only [k0_part3_eq_skeleton, k0_part3_skel, Prog.lift, Prog.bind_op, Prog.bind_ret, Prog.pure_eq_ret]
  iintro ⟨HK, HV, HS1, HS2⟩ Hk
  iapply (ld_slice attnM (oS 1) rfl) $$ HS1; iintro HS1
  iapply (st_slice attnM (oS 1) rfl) $$ HS1; iintro HS1
  iapply (ld_part kM (oH (nb (ha c)) 2) (off4_eq c)) $$ HK; iintro HK
  iapply (ld_part vM (oH (nb (ha c)) 2) (off4_eq c)) $$ HV; iintro HV
  iapply (ld_slice attnM (oS 2) rfl) $$ HS2; iintro HS2
  iapply (st_slice attnM (oS 2) rfl) $$ HS2; iintro HS2
  iapply Hk $$ [HK HV HS1 HS2]
  isplitl [HK]; · iexact HK
  isplitl [HV]; · iexact HV
  isplitl [HS1]; · iexact HS1
  iexact HS2

/-- Head 3. -/
theorem part4_spec {Q : α → sProp 𝕄} {k : (Σ' (v148 : FVec F S128x64 .bf16) (v153 : FVec F S128x64 .bf16), FVec F S1x128x64 .f32) → Prog (TpuEff nD τ sig (Elt F) Λ₀ .tc) α} {v16 : BitVec 32} {w3 : S128x64.Idx → Elt F .bf16} :
    (own c kM I.k ∗ own c vM I.v ∗ own c (attnS 3) w3 : sProp 𝕄)
      ⊢ iprop(((own c kM I.k ∗ own c vM I.v ∗ own c (attnS 3) (headF I (nb (ha c)) 3)) -∗ wp frame (wpE (defs₀ (F := F)) 𝒱₀ (c.tc : Thread nD τ) none) Set.univ (k ⟨k0_pay15 (qF I (nb (ha c))), k0_pay16 (kHd I (nb (ha c)) 4), k0_pay17 (vHd I (nb (ha c)) 4)⟩) Q)
          -∗ wp frame (wpE (defs₀ (F := F)) 𝒱₀ (c.tc : Thread nD τ) none) Set.univ (k0_part4 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v16 (qF I (nb (ha c))) (k0_pay13 (qF I (nb (ha c)))) >>= k) Q) := by
  simp only [k0_part4_eq_skeleton, k0_part4_skel, Prog.lift, Prog.bind_op, Prog.bind_ret, Prog.pure_eq_ret]
  iintro ⟨HK, HV, HS3⟩ Hk
  iapply (ld_part kM (oH (nb (ha c)) 3) (off5_eq c)) $$ HK; iintro HK
  iapply (ld_part vM (oH (nb (ha c)) 3) (off5_eq c)) $$ HV; iintro HV
  iapply (ld_slice attnM (oS 3) rfl) $$ HS3; iintro HS3
  iapply (st_slice attnM (oS 3) rfl) $$ HS3; iintro HS3
  iapply (ld_part kM (oH (nb (ha c)) 4) (off6_eq c)) $$ HK; iintro HK
  iapply (ld_part vM (oH (nb (ha c)) 4) (off6_eq c)) $$ HV; iintro HV
  iapply Hk $$ [HK HV HS3]
  isplitl [HK]; · iexact HK
  isplitl [HV]; · iexact HV
  iexact HS3

/-- Head 4. -/
theorem part5_spec {Q : α → sProp 𝕄} {k : (Σ' (v189 : FVec F S128x64 .bf16), FVec F S128x128 .f32) → Prog (TpuEff nD τ sig (Elt F) Λ₀ .tc) α} {v16 : BitVec 32} {w4 : S128x64.Idx → Elt F .bf16} :
    (own c kM I.k ∗ own c vM I.v ∗ own c (attnS 4) w4 : sProp 𝕄)
      ⊢ iprop(((own c kM I.k ∗ own c vM I.v ∗ own c (attnS 4) (headF I (nb (ha c)) 4)) -∗ wp frame (wpE (defs₀ (F := F)) 𝒱₀ (c.tc : Thread nD τ) none) Set.univ (k ⟨k0_pay19 (vHd I (nb (ha c)) 5), k0_pay20 (qF I (nb (ha c))) (kHd I (nb (ha c)) 5)⟩) Q)
          -∗ wp frame (wpE (defs₀ (F := F)) 𝒱₀ (c.tc : Thread nD τ) none) Set.univ (k0_part5 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v16 (qF I (nb (ha c))) (k0_pay15 (qF I (nb (ha c)))) (k0_pay16 (kHd I (nb (ha c)) 4)) (k0_pay17 (vHd I (nb (ha c)) 4)) >>= k) Q) := by
  simp only [k0_part5_eq_skeleton, k0_part5_skel, Prog.lift, Prog.bind_op, Prog.bind_ret, Prog.pure_eq_ret]
  iintro ⟨HK, HV, HS4⟩ Hk
  iapply (ld_slice attnM (oS 4) rfl) $$ HS4; iintro HS4
  iapply (st_slice attnM (oS 4) rfl) $$ HS4; iintro HS4
  iapply (ld_part kM (oH (nb (ha c)) 5) (off7_eq c)) $$ HK; iintro HK
  iapply (ld_part vM (oH (nb (ha c)) 5) (off7_eq c)) $$ HV; iintro HV
  iapply Hk $$ [HK HV HS4]
  isplitl [HK]; · iexact HK
  isplitl [HV]; · iexact HV
  iexact HS4

/-- Head 5. -/
theorem part6_spec {Q : α → sProp 𝕄} {k : (Σ' (v237 : FVec F S128x64 .bf16), Vec F S128x64 .bf16) → Prog (TpuEff nD τ sig (Elt F) Λ₀ .tc) α} {v16 : BitVec 32} {w5 : S128x64.Idx → Elt F .bf16} {w6 : S128x64.Idx → Elt F .bf16} :
    (own c kM I.k ∗ own c vM I.v ∗ own c (attnS 5) w5 ∗ own c (attnS 6) w6 : sProp 𝕄)
      ⊢ iprop(((own c kM I.k ∗ own c vM I.v ∗ own c (attnS 5) (headF I (nb (ha c)) 5) ∗ own c (attnS 6) w6) -∗ wp frame (wpE (defs₀ (F := F)) 𝒱₀ (c.tc : Thread nD τ) none) Set.univ (k ⟨k0_pay22 (qF I (nb (ha c))) (kHd I (nb (ha c)) 6) (vHd I (nb (ha c)) 6), w6⟩) Q)
          -∗ wp frame (wpE (defs₀ (F := F)) 𝒱₀ (c.tc : Thread nD τ) none) Set.univ (k0_part6 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v16 (qF I (nb (ha c))) (k0_pay19 (vHd I (nb (ha c)) 5)) (k0_pay20 (qF I (nb (ha c))) (kHd I (nb (ha c)) 5)) >>= k) Q) := by
  simp only [k0_part6_eq_skeleton, k0_part6_skel, Prog.lift, Prog.bind_op, Prog.bind_ret, Prog.pure_eq_ret]
  iintro ⟨HK, HV, HS5, HS6⟩ Hk
  iapply (ld_slice attnM (oS 5) rfl) $$ HS5; iintro HS5
  iapply (st_slice attnM (oS 5) rfl) $$ HS5; iintro HS5
  iapply (ld_part kM (oH (nb (ha c)) 6) (off8_eq c)) $$ HK; iintro HK
  iapply (ld_part vM (oH (nb (ha c)) 6) (off8_eq c)) $$ HV; iintro HV
  iapply (ld_slice attnM (oS 6) rfl) $$ HS6; iintro HS6
  iapply Hk $$ [HK HV HS5 HS6]
  isplitl [HK]; · iexact HK
  isplitl [HV]; · iexact HV
  isplitl [HS5]; · iexact HS5
  iexact HS6

/-- Heads 6 and 7, and the output projection of the eight. -/
theorem part7_spec {Q : α → sProp 𝕄} {k : (FVec F S1x128x512 .bf16) → Prog (TpuEff nD τ sig (Elt F) Λ₀ .tc) α} {v16 : BitVec 32} {v7 : BitVec 32} {v238 : Vec F S128x64 .bf16} {w6 : S128x64.Idx → Elt F .bf16} {w7 : S128x64.Idx → Elt F .bf16} :
    (own c kM I.k ∗ own c vM I.v ∗ own c (attnS 0) (headF I (nb (ha c)) 0) ∗ own c (attnS 1) (headF I (nb (ha c)) 1) ∗ own c (attnS 2) (headF I (nb (ha c)) 2) ∗ own c (attnS 3) (headF I (nb (ha c)) 3) ∗ own c (attnS 4) (headF I (nb (ha c)) 4) ∗ own c (attnS 5) (headF I (nb (ha c)) 5) ∗ own c (attnS 6) w6 ∗ own c (attnS 7) w7 : sProp 𝕄)
      ⊢ iprop(((own c kM I.k ∗ own c vM I.v ∗ own c attnM (attnOf (headF I (nb (ha c))))) -∗ wp frame (wpE (defs₀ (F := F)) 𝒱₀ (c.tc : Thread nD τ) none) Set.univ (k (k0_pay25 (k0_pay2 I.wo) (attnOf (headF I (nb (ha c)))))) Q)
          -∗ wp frame (wpE (defs₀ (F := F)) 𝒱₀ (c.tc : Thread nD τ) none) Set.univ (k0_part7 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v7 (k0_pay2 I.wo) v16 (qF I (nb (ha c))) (k0_pay22 (qF I (nb (ha c))) (kHd I (nb (ha c)) 6) (vHd I (nb (ha c)) 6)) v238 >>= k) Q) := by
  simp only [k0_part7_eq_skeleton, k0_part7_skel, Prog.lift, Prog.bind_op, Prog.bind_ret, Prog.pure_eq_ret]
  iintro ⟨HK, HV, HS0, HS1, HS2, HS3, HS4, HS5, HS6, HS7⟩ Hk
  iapply (st_slice attnM (oS 6) rfl) $$ HS6; iintro HS6
  iapply (ld_part kM (oH (nb (ha c)) 7) (off9_eq c)) $$ HK; iintro HK
  iapply (ld_part vM (oH (nb (ha c)) 7) (off9_eq c)) $$ HV; iintro HV
  iapply (ld_slice attnM (oS 7) rfl) $$ HS7; iintro HS7
  iapply (st_slice attnM (oS 7) rfl) $$ HS7; iintro HS7
  ihave HA : own c attnM (attnOf (headF I (nb (ha c)))) $$ [HS0 HS1 HS2 HS3 HS4 HS5 HS6 HS7]
  · iapply (own_attn (c := c) (headF I (nb (ha c))))
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  iapply (ld_full attnM (by decide)) $$ HA; iintro HA
  iapply Hk $$ [HK HV HA]
  isplitl [HK]; · iexact HK
  isplitl [HV]; · iexact HV
  iexact HA

/-- Head 0 of the second round. -/
theorem part9_spec {Q : α → sProp 𝕄} {k : (Σ' (v342 : FVec F S128x64 .bf16), FVec F S128x128 .f32) → Prog (TpuEff nD τ sig (Elt F) Λ₀ .tc) α} {v7 : BitVec 32} {w0 : S128x64.Idx → Elt F .bf16} :
    (own c kM I.k ∗ own c vM I.v ∗ own c (attnS 0) w0 : sProp 𝕄)
      ⊢ iprop(((own c kM I.k ∗ own c vM I.v ∗ own c (attnS 0) (headS I (ha c) 0)) -∗ wp frame (wpE (defs₀ (F := F)) 𝒱₀ (c.tc : Thread nD τ) none) Set.univ (k ⟨k0_pay31 (vHd I (ha c) 1), k0_pay32 (qS I (ha c)) (kHd I (ha c) 1)⟩) Q)
          -∗ wp frame (wpE (defs₀ (F := F)) 𝒱₀ (c.tc : Thread nD τ) none) Set.univ (k0_part9 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v7 (qS I (ha c)) (k0_pay28 (k0_pay1 I.wq) (xRow I (ha c))) (k0_pay29 (kHd I (ha c) 0)) >>= k) Q) := by
  simp only [k0_part9_eq_skeleton, k0_part9_skel, Prog.lift, Prog.bind_op, Prog.bind_ret, Prog.pure_eq_ret]
  iintro ⟨HK, HV, HS0⟩ Hk
  iapply (ld_part vM (oH (ha c) 0) (off12_eq c)) $$ HV; iintro HV
  iapply (ld_slice attnM (oS 0) rfl) $$ HS0; iintro HS0
  iapply (st_slice attnM (oS 0) rfl) $$ HS0; iintro HS0
  iapply (ld_part kM (oH (ha c) 1) (off13_eq c)) $$ HK; iintro HK
  iapply (ld_part vM (oH (ha c) 1) (off13_eq c)) $$ HV; iintro HV
  iapply Hk $$ [HK HV HS0]
  isplitl [HK]; · iexact HK
  isplitl [HV]; · iexact HV
  iexact HS0

/-- Head 1 of the second round. -/
theorem part10_spec {Q : α → sProp 𝕄} {k : (FVec F S128x64 .bf16) → Prog (TpuEff nD τ sig (Elt F) Λ₀ .tc) α} {v7 : BitVec 32} {w1 : S128x64.Idx → Elt F .bf16} :
    (own c kM I.k ∗ own c vM I.v ∗ own c (attnS 1) w1 : sProp 𝕄)
      ⊢ iprop(((own c kM I.k ∗ own c vM I.v ∗ own c (attnS 1) (headS I (ha c) 1)) -∗ wp frame (wpE (defs₀ (F := F)) 𝒱₀ (c.tc : Thread nD τ) none) Set.univ (k (k0_pay34 (qS I (ha c)) (kHd I (ha c) 2) (vHd I (ha c) 2))) Q)
          -∗ wp frame (wpE (defs₀ (F := F)) 𝒱₀ (c.tc : Thread nD τ) none) Set.univ (k0_part10 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v7 (qS I (ha c)) (k0_pay31 (vHd I (ha c) 1)) (k0_pay32 (qS I (ha c)) (kHd I (ha c) 1)) >>= k) Q) := by
  simp only [k0_part10_eq_skeleton, k0_part10_skel, Prog.lift, Prog.bind_op, Prog.bind_ret, Prog.pure_eq_ret]
  iintro ⟨HK, HV, HS1⟩ Hk
  iapply (ld_slice attnM (oS 1) rfl) $$ HS1; iintro HS1
  iapply (st_slice attnM (oS 1) rfl) $$ HS1; iintro HS1
  iapply (ld_part kM (oH (ha c) 2) (off14_eq c)) $$ HK; iintro HK
  iapply (ld_part vM (oH (ha c) 2) (off14_eq c)) $$ HV; iintro HV
  iapply Hk $$ [HK HV HS1]
  isplitl [HK]; · iexact HK
  isplitl [HV]; · iexact HV
  iexact HS1

/-- Heads 2 and 3 of the second round. -/
theorem part11_spec {Q : α → sProp 𝕄} {k : (Σ' (v425 : FVec F S128x64 .bf16), FVec F S128x64 .bf16) → Prog (TpuEff nD τ sig (Elt F) Λ₀ .tc) α} {v7 : BitVec 32} {w2 : S128x64.Idx → Elt F .bf16} {w3 : S128x64.Idx → Elt F .bf16} :
    (own c kM I.k ∗ own c vM I.v ∗ own c (attnS 2) w2 ∗ own c (attnS 3) w3 : sProp 𝕄)
      ⊢ iprop(((own c kM I.k ∗ own c vM I.v ∗ own c (attnS 2) (headS I (ha c) 2) ∗ own c (attnS 3) (headS I (ha c) 3)) -∗ wp frame (wpE (defs₀ (F := F)) 𝒱₀ (c.tc : Thread nD τ) none) Set.univ (k ⟨k0_pay37 (qS I (ha c)), k0_pay38 (kHd I (ha c) 4)⟩) Q)
          -∗ wp frame (wpE (defs₀ (F := F)) 𝒱₀ (c.tc : Thread nD τ) none) Set.univ (k0_part11 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v7 (qS I (ha c)) (k0_pay34 (qS I (ha c)) (kHd I (ha c) 2) (vHd I (ha c) 2)) >>= k) Q) := by
  simp only [k0_part11_eq_skeleton, k0_part11_skel, Prog.lift, Prog.bind_op, Prog.bind_ret, Prog.pure_eq_ret]
  iintro ⟨HK, HV, HS2, HS3⟩ Hk
  iapply (ld_slice attnM (oS 2) rfl) $$ HS2; iintro HS2
  iapply (st_slice attnM (oS 2) rfl) $$ HS2; iintro HS2
  iapply (ld_part kM (oH (ha c) 3) (off15_eq c)) $$ HK; iintro HK
  iapply (ld_part vM (oH (ha c) 3) (off15_eq c)) $$ HV; iintro HV
  iapply (ld_slice attnM (oS 3) rfl) $$ HS3; iintro HS3
  iapply (st_slice attnM (oS 3) rfl) $$ HS3; iintro HS3
  iapply (ld_part kM (oH (ha c) 4) (off16_eq c)) $$ HK; iintro HK
  iapply Hk $$ [HK HV HS2 HS3]
  isplitl [HK]; · iexact HK
  isplitl [HV]; · iexact HV
  isplitl [HS2]; · iexact HS2
  iexact HS3

/-- Head 4 of the second round. -/
theorem part12_spec {Q : α → sProp 𝕄} {k : (Σ' (v466 : FVec F S128x64 .bf16), FVec F S128x128 .f32) → Prog (TpuEff nD τ sig (Elt F) Λ₀ .tc) α} {v7 : BitVec 32} {w4 : S128x64.Idx → Elt F .bf16} :
    (own c kM I.k ∗ own c vM I.v ∗ own c (attnS 4) w4 : sProp 𝕄)
      ⊢ iprop(((own c kM I.k ∗ own c vM I.v ∗ own c (attnS 4) (headS I (ha c) 4)) -∗ wp frame (wpE (defs₀ (F := F)) 𝒱₀ (c.tc : Thread nD τ) none) Set.univ (k ⟨k0_pay40 (vHd I (ha c) 5), k0_pay41 (qS I (ha c)) (kHd I (ha c) 5)⟩) Q)
          -∗ wp frame (wpE (defs₀ (F := F)) 𝒱₀ (c.tc : Thread nD τ) none) Set.univ (k0_part12 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v7 (qS I (ha c)) (k0_pay37 (qS I (ha c))) (k0_pay38 (kHd I (ha c) 4)) >>= k) Q) := by
  simp only [k0_part12_eq_skeleton, k0_part12_skel, Prog.lift, Prog.bind_op, Prog.bind_ret, Prog.pure_eq_ret]
  iintro ⟨HK, HV, HS4⟩ Hk
  iapply (ld_part vM (oH (ha c) 4) (off16_eq c)) $$ HV; iintro HV
  iapply (ld_slice attnM (oS 4) rfl) $$ HS4; iintro HS4
  iapply (st_slice attnM (oS 4) rfl) $$ HS4; iintro HS4
  iapply (ld_part kM (oH (ha c) 5) (off17_eq c)) $$ HK; iintro HK
  iapply (ld_part vM (oH (ha c) 5) (off17_eq c)) $$ HV; iintro HV
  iapply Hk $$ [HK HV HS4]
  isplitl [HK]; · iexact HK
  isplitl [HV]; · iexact HV
  iexact HS4

/-- Head 5 of the second round. -/
theorem part13_spec {Q : α → sProp 𝕄} {k : (Σ' (v509 : FVec F S128x64 .f32), FVec F S128x1 .f32) → Prog (TpuEff nD τ sig (Elt F) Λ₀ .tc) α} {v7 : BitVec 32} {w5 : S128x64.Idx → Elt F .bf16} :
    (own c kM I.k ∗ own c vM I.v ∗ own c (attnS 5) w5 : sProp 𝕄)
      ⊢ iprop(((own c kM I.k ∗ own c vM I.v ∗ own c (attnS 5) (headS I (ha c) 5)) -∗ wp frame (wpE (defs₀ (F := F)) 𝒱₀ (c.tc : Thread nD τ) none) Set.univ (k ⟨k0_pay44 (qS I (ha c)) (kHd I (ha c) 6) (vHd I (ha c) 6), k0_pay45 (qS I (ha c)) (kHd I (ha c) 6)⟩) Q)
          -∗ wp frame (wpE (defs₀ (F := F)) 𝒱₀ (c.tc : Thread nD τ) none) Set.univ (k0_part13 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v7 (qS I (ha c)) (k0_pay40 (vHd I (ha c) 5)) (k0_pay41 (qS I (ha c)) (kHd I (ha c) 5)) >>= k) Q) := by
  simp only [k0_part13_eq_skeleton, k0_part13_skel, Prog.lift, Prog.bind_op, Prog.bind_ret, Prog.pure_eq_ret]
  iintro ⟨HK, HV, HS5⟩ Hk
  iapply (ld_slice attnM (oS 5) rfl) $$ HS5; iintro HS5
  iapply (st_slice attnM (oS 5) rfl) $$ HS5; iintro HS5
  iapply (ld_part kM (oH (ha c) 6) (off18_eq c)) $$ HK; iintro HK
  iapply (ld_part vM (oH (ha c) 6) (off18_eq c)) $$ HV; iintro HV
  iapply Hk $$ [HK HV HS5]
  isplitl [HK]; · iexact HK
  isplitl [HV]; · iexact HV
  iexact HS5

/-- Heads 6 and 7 of the second round, and the output projection of the eight. -/
theorem part14_spec {Q : α → sProp 𝕄} {k : (FVec F S128x512 .f32) → Prog (TpuEff nD τ sig (Elt F) Λ₀ .tc) α} {v7 : BitVec 32} {w6 : S128x64.Idx → Elt F .bf16} {w7 : S128x64.Idx → Elt F .bf16} :
    (own c kM I.k ∗ own c vM I.v ∗ own c (attnS 0) (headS I (ha c) 0) ∗ own c (attnS 1) (headS I (ha c) 1) ∗ own c (attnS 2) (headS I (ha c) 2) ∗ own c (attnS 3) (headS I (ha c) 3) ∗ own c (attnS 4) (headS I (ha c) 4) ∗ own c (attnS 5) (headS I (ha c) 5) ∗ own c (attnS 6) w6 ∗ own c (attnS 7) w7 : sProp 𝕄)
      ⊢ iprop(((own c kM I.k ∗ own c vM I.v ∗ own c attnM (attnOf (headS I (ha c)))) -∗ wp frame (wpE (defs₀ (F := F)) 𝒱₀ (c.tc : Thread nD τ) none) Set.univ (k (k0_pay48 (k0_pay2 I.wo) (attnOf (headS I (ha c))))) Q)
          -∗ wp frame (wpE (defs₀ (F := F)) 𝒱₀ (c.tc : Thread nD τ) none) Set.univ (k0_part14 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v7 (k0_pay2 I.wo) (qS I (ha c)) (k0_pay44 (qS I (ha c)) (kHd I (ha c) 6) (vHd I (ha c) 6)) (k0_pay45 (qS I (ha c)) (kHd I (ha c) 6)) >>= k) Q) := by
  simp only [k0_part14_eq_skeleton, k0_part14_skel, Prog.lift, Prog.bind_op, Prog.bind_ret, Prog.pure_eq_ret]
  iintro ⟨HK, HV, HS0, HS1, HS2, HS3, HS4, HS5, HS6, HS7⟩ Hk
  iapply (ld_slice attnM (oS 6) rfl) $$ HS6; iintro HS6
  iapply (st_slice attnM (oS 6) rfl) $$ HS6; iintro HS6
  iapply (ld_part kM (oH (ha c) 7) (off19_eq c)) $$ HK; iintro HK
  iapply (ld_part vM (oH (ha c) 7) (off19_eq c)) $$ HV; iintro HV
  iapply (ld_slice attnM (oS 7) rfl) $$ HS7; iintro HS7
  iapply (st_slice attnM (oS 7) rfl) $$ HS7; iintro HS7
  ihave HA : own c attnM (attnOf (headS I (ha c))) $$ [HS0 HS1 HS2 HS3 HS4 HS5 HS6 HS7]
  · iapply (own_attn (c := c) (headS I (ha c)))
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  iapply (ld_full attnM (by decide)) $$ HA; iintro HA
  iapply Hk $$ [HK HV HA]
  isplitl [HK]; · iexact HK
  isplitl [HV]; · iexact HV
  iexact HA

end Cert.KProof
end
-- ==== Proof.Quarters.lean ====
/-
Cutting the buffer of sums and the result's buffer into quarters, and joining them again.
-/
module

public import proofs.«01_k».proof.Proof.Compute
public import Idealize.ShloMosaic.Lib.MemrefSat

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD}

theorem rR_disj (t t' : Fin 2) (hne : t ≠ t') : Disjoint (rR t).set (rR t').set := by
  rw [Finset.disjoint_left]
  intro i hi hi'
  rw [Rect.mem_set_unit] at hi hi'
  have h1 := hi 0
  have h2 := hi' 0
  simp only [Matrix.cons_val, show S1x128x512.size 0 = 1 from rfl] at h1 h2
  exact hne (Fin.ext (by omega))

theorem rR_cover : (Finset.univ : Finset (Fin 2)).biUnion (fun h => (rR h).set) = Finset.univ := by
  ext i
  simp only [Finset.mem_biUnion, Finset.mem_univ, true_and, iff_true]
  have hi0 : (i 0).val < 2 := (i 0).isLt
  have hi1 : (i 1).val < 128 := (i 1).isLt
  have hi2 : (i 2).val < 512 := (i 2).isLt
  refine ⟨⟨(i 0).val, hi0⟩, ?_⟩
  rw [Rect.mem_set_unit]
  intro a
  fin_cases a
  · exact ⟨le_refl _, Nat.lt_succ_self _⟩
  · exact ⟨Nat.zero_le _, by simpa using hi1⟩
  · exact ⟨Nat.zero_le _, by simpa using hi2⟩

/-- Of two things indexed by `Fin 2`, one is at a given index and the other at the other. -/
theorem pair_nb (P : Fin 2 → sProp 𝕄) (b : Fin 2) : iprop(P 0 ∗ P 1) ⊢ iprop(P b ∗ P (nb b)) := by
  rcases (show b = 0 ∨ b = 1 by revert b; decide) with h | h <;> subst h
  · exact BIBase.Entails.rfl
  · show iprop(P 0 ∗ P 1) ⊢ iprop(P 1 ∗ P 0)
    iintro ⟨H0, H1⟩
    isplitl [H1]; · iexact H1
    iexact H0
theorem nb_pair (P : Fin 2 → sProp 𝕄) (b : Fin 2) : iprop(P b ∗ P (nb b)) ⊢ iprop(P 0 ∗ P 1) := by
  rcases (show b = 0 ∨ b = 1 by revert b; decide) with h | h <;> subst h
  · exact BIBase.Entails.rfl
  · show iprop(P 1 ∗ P 0) ⊢ iprop(P 0 ∗ P 1)
    iintro ⟨H0, H1⟩
    isplitl [H1]; · iexact H1
    iexact H0

/-- The buffer of sums cut into its two batches. -/
theorem acc_rows (X : S2x128x512.Idx → Elt F .bf16) (b : Fin 2) :
    (own c accM X : sProp 𝕄) ⊢ iprop((∃ w, own c (accR b) w) ∗ (∃ w, own c (accR (nb b)) w)) := by
  have h := own_cut (F := F) (c := c) accM rR (fun _ _ => rfl) rR_disj rR_cover X
  rw [bigSep_univ_eq_bigSepL [0, 1] (by decide) (by decide)] at h
  simp only [bigSepL_cons_cons, bigSepL_singleton] at h
  have h' : (own c accM X : sProp 𝕄) ⊢ iprop(own c (accR 0) (fun j => X ((rR 0).emb j)) ∗ own c (accR 1) (fun j => X ((rR 1).emb j))) := h
  refine (h'.trans ?_).trans (pair_nb (fun b => iprop(∃ w, own c (accR b) w)) b)
  iintro ⟨H0, H1⟩
  isplitl [H0]; · iexists (fun j => X ((rR 0).emb j)); iexact H0
  iexists (fun j => X ((rR 1).emb j)); iexact H1

theorem set_rR (b : Fin 2) : (rR b).set = (rA b).set ∪ (rB b).set := by
  ext i
  have hi1 : (i 1).val < 128 := (i 1).isLt
  have hi2 : (i 2).val < 512 := (i 2).isLt
  rw [Finset.mem_union, Rect.mem_set_unit, Rect.mem_set_unit, Rect.mem_set_unit]
  constructor
  · intro h
    by_cases h2 : (i 2).val < 256
    · refine .inl fun a => ?_
      fin_cases a
      · exact h 0
      · exact h 1
      · exact ⟨Nat.zero_le _, by simpa using h2⟩
    · refine .inr fun a => ?_
      fin_cases a
      · exact h 0
      · exact h 1
      · exact ⟨not_lt.mp h2, by simpa using hi2⟩
  · rintro (h | h)
    all_goals
      intro a
      fin_cases a
      · exact h 0
      · exact h 1
      · exact ⟨Nat.zero_le _, by simpa using hi2⟩

theorem disj_AB (b b' : Fin 2) : Disjoint (rA b).set (rB b').set := rQ_disj (false, b) (true, b') (by simp)

/-- A batch of the buffer of sums is its left and its right half. -/
theorem row_halves (b : Fin 2) (w : S1x128x512.Idx → Elt F .bf16) :
    (own c (accR b) w : sProp 𝕄) ⊢ iprop(own c (accA b) (colA w) ∗ own c (accB b) (colB w)) := by
  unfold own owns
  iintro ⟨%f, %hf, H⟩
  have hs : (accR b).view.set = (accA b).view.set ∪ (accB b).view.set := by
    show (accM.view.slice (rR b)).set = (accM.view.slice (rA b)).set ∪ (accM.view.slice (rB b)).set
    simp only [View.set_slice_whole]
    exact set_rR b
  have hd : Disjoint (accA b).view.set (accB b).view.set := by
    show Disjoint (accM.view.slice (rA b)).set (accM.view.slice (rB b)).set
    simp only [View.set_slice_whole]
    exact disj_AB b b
  have hA : (accA b).view.read (Elt F) f = colA w := by
    subst hf
    funext j
    show accM.view.read (Elt F) f ((rA b).emb j) = accM.view.read (Elt F) f ((rR b).emb (cA.emb j))
    rw [emb_colA]
  have hB : (accB b).view.read (Elt F) f = colB w := by
    subst hf
    funext j
    show accM.view.read (Elt F) f ((rB b).emb j) = accM.view.read (Elt F) f ((rR b).emb (cB.emb j))
    rw [emb_colB]
  ihave H' : iprop(((accA b).view.loc (c.tc : Thread nD τ) ↦[(accA b).view.set]{fullShare} f) ∗ ((accB b).view.loc (c.tc : Thread nD τ) ↦[(accB b).view.set]{fullShare} f)) $$ [H]
  · iapply (pointsTo_union hd).1
    rw [← hs]
    iexact H
  icases H' with ⟨H1, H2⟩
  isplitl [H1]
  · iexists f; isplitr; · ipureintro; exact hA
    iexact H1
  · iexists f; isplitr; · ipureintro; exact hB
    iexact H2

/-- The four quarters of the buffer of sums are the buffer. -/
theorem acc_join (b b' : Fin 2) (v1 v2 v3 v4 : S1x128x256.Idx → Elt F .bf16) :
    (own c (accA b) v1 ∗ own c (accA (nb b)) v2 ∗ own c (accB b') v3 ∗ own c (accB (nb b')) v4 : sProp 𝕄)
      ⊢ iprop(∃ X, own c accM X) := by
  have key (u : Bool × Fin 2 → S1x128x256.Idx → Elt F .bf16) :
      iprop(own c (accA 0) (u (false, 0)) ∗ own c (accA 1) (u (false, 1)) ∗ own c (accB 0) (u (true, 0)) ∗ own c (accB 1) (u (true, 1)))
      ⊢ iprop(∃ X : S2x128x512.Idx → Elt F .bf16, own c accM X) := by
    have h := own_glue (F := F) (c := c) accM rQ (fun _ _ => rfl) rQ_disj rQ_cover u
    rw [bigSep_univ_eq_bigSepL [(false, 0), (false, 1), (true, 0), (true, 1)] (by decide) (by decide)] at h
    simp only [bigSepL_cons_cons, bigSepL_singleton] at h
    have h' : iprop(own c (accA 0) (u (false, 0)) ∗ own c (accA 1) (u (false, 1)) ∗ own c (accB 0) (u (true, 0)) ∗ own c (accB 1) (u (true, 1)))
      ⊢ iprop(∃ X : S2x128x512.Idx → Elt F .bf16, ⌜∀ t, (fun j => X ((rQ t).emb j)) = u t⌝ ∗ own c accM X) := h
    refine h'.trans ?_
    iintro ⟨%X, -, H⟩
    iexists X; iexact H
  iintro ⟨H0, H1, H2, H3⟩
  ihave HA := (nb_pair (fun b => iprop(∃ w, own c (accA b) w)) b) $$ [H0 H1]
  · isplitl [H0]; · iexists v1; iexact H0
    iexists v2; iexact H1
  ihave HB := (nb_pair (fun b => iprop(∃ w, own c (accB b) w)) b') $$ [H2 H3]
  · isplitl [H2]; · iexists v3; iexact H2
    iexists v4; iexact H3
  icases HA with ⟨⟨%u0, H0⟩, ⟨%u1, H1⟩⟩
  icases HB with ⟨⟨%u2, H2⟩, ⟨%u3, H3⟩⟩
  iapply (key (fun t => cond t.1 (if t.2 = 0 then u2 else u3) (if t.2 = 0 then u0 else u1)))
  isplitl [H0]; · iexact H0
  isplitl [H1]; · iexact H1
  isplitl [H2]; · iexact H2
  iexact H3

/-- The result's buffer cut into its quarters. -/
theorem out_cut (X : S2x128x512.Idx → Elt F .f32) (b b' : Fin 2) :
    (own c outM X : sProp 𝕄) ⊢ iprop((∃ w, own c (outA b) w) ∗ (∃ w, own c (outA (nb b)) w) ∗ (∃ w, own c (outB b') w) ∗ (∃ w, own c (outB (nb b')) w)) := by
  have h := own_cut (F := F) (c := c) outM rQ (fun _ _ => rfl) rQ_disj rQ_cover X
  rw [bigSep_univ_eq_bigSepL [(false, 0), (false, 1), (true, 0), (true, 1)] (by decide) (by decide)] at h
  simp only [bigSepL_cons_cons, bigSepL_singleton] at h
  have h' : (own c outM X : sProp 𝕄) ⊢ iprop(own c (outA 0) (fun j => X ((rA 0).emb j)) ∗ own c (outA 1) (fun j => X ((rA 1).emb j))
      ∗ own c (outB 0) (fun j => X ((rB 0).emb j)) ∗ own c (outB 1) (fun j => X ((rB 1).emb j))) := h
  refine h'.trans ?_
  iintro ⟨H0, H1, H2, H3⟩
  ihave HA : iprop((∃ w, own c (outA b) w) ∗ (∃ w, own c (outA (nb b)) w)) $$ [H0 H1]
  · iapply (pair_nb (fun b => iprop(∃ w, own c (outA b) w)) b)
    isplitl [H0]; · iexists (fun j => X ((rA 0).emb j)); iexact H0
    iexists (fun j => X ((rA 1).emb j)); iexact H1
  ihave HB : iprop((∃ w, own c (outB b') w) ∗ (∃ w, own c (outB (nb b')) w)) $$ [H2 H3]
  · iapply (pair_nb (fun b => iprop(∃ w, own c (outB b) w)) b')
    isplitl [H2]; · iexists (fun j => X ((rB 0).emb j)); iexact H2
    iexists (fun j => X ((rB 1).emb j)); iexact H3
  icases HA with ⟨HA1, HA2⟩
  icases HB with ⟨HB1, HB2⟩
  isplitl [HA1]; · iexact HA1
  isplitl [HA2]; · iexact HA2
  isplitl [HB1]; · iexact HB1
  iexact HB2

/-- The four quarters of the result are the result. -/
theorem out_join (J : Dev nD → Ins F) :
    (own c (outA (ha c)) (k0_pay54 (A2 J c)) ∗ own c (outA (nb (ha c))) (k0_pay57 (A2 J (p1 c)))
      ∗ own c (outB (hb c)) (k0_pay56 (B2 J c)) ∗ own c (outB (nb (hb c))) (k0_pay58 (B2 J (p2 c))) : sProp 𝕄)
      ⊢ own c outM (outC J c) := by
  have h := own_glue (F := F) (c := c) outM rQ (fun _ _ => rfl) rQ_disj rQ_cover (outQ J c)
  rw [bigSep_univ_eq_bigSepL [(false, 0), (false, 1), (true, 0), (true, 1)] (by decide) (by decide)] at h
  simp only [bigSepL_cons_cons, bigSepL_singleton] at h
  have h' : iprop(own c (outA 0) (outQ J c (false, 0)) ∗ own c (outA 1) (outQ J c (false, 1))
      ∗ own c (outB 0) (outQ J c (true, 0)) ∗ own c (outB 1) (outQ J c (true, 1)))
      ⊢ iprop(∃ X : S2x128x512.Idx → Elt F .f32, ⌜∀ t, (fun j => X ((rQ t).emb j)) = outQ J c t⌝ ∗ own c outM X) := h
  have e1 : k0_pay54 (A2 J c) = outQ J c (false, ha c) := (if_pos rfl).symm
  have e2 : k0_pay57 (A2 J (p1 c)) = outQ J c (false, nb (ha c)) := (if_neg (nb_ne _)).symm
  have e3 : k0_pay56 (B2 J c) = outQ J c (true, hb c) := (if_pos rfl).symm
  have e4 : k0_pay58 (B2 J (p2 c)) = outQ J c (true, nb (hb c)) := (if_neg (nb_ne _)).symm
  rw [e1, e2, e3, e4]
  iintro ⟨H0, H1, H2, H3⟩
  ihave HA := (nb_pair (fun b => own c (outA b) (outQ J c (false, b))) (ha c)) $$ [H0 H1]
  · isplitl [H0]; · iexact H0
    iexact H1
  ihave HB := (nb_pair (fun b => own c (outB b) (outQ J c (true, b))) (hb c)) $$ [H2 H3]
  · isplitl [H2]; · iexact H2
    iexact H3
  icases HA with ⟨H0, H1⟩
  icases HB with ⟨H2, H3⟩
  ihave HX := h' $$ [H0 H1 H2 H3]
  · isplitl [H0]; · iexact H0
    isplitl [H1]; · iexact H1
    isplitl [H2]; · iexact H2
    iexact H3
  icases HX with ⟨%X, %hX, H⟩
  rw [eq_outC J c X hX]
  iexact H

end Cert.KProof
end
-- ==== Proof.Sched.lean ====
/-
The exchange between the devices: what each semaphore's round hands over.

Device `c` exchanges with `p1 c` and `p2 c`. A device's barrier cell has two duties, one of each neighbour, by which the
neighbour lends its landing buffers; the six receive cells hand over what has landed, the first two also the quarter the
sender read it from, which the last two transfers land in; the send cells hand a source back where the receive cell did
not take it along.
-/
module

public import proofs.«01_k».proof.Proof.Quarters

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier semaphore, and the send and receive semaphores of the six transfers. -/
abbrev barS : Sem sig := (SemArray.scalar (sig.barrier 0 rfl) : Sems sig S_).sem
abbrev sS (j : Fin 6) : DmaSem sig := ⟨6 + j.val, by have := j.isLt; show 6 + j.val < 18; omega⟩
abbrev rS' (j : Fin 6) : DmaSem sig := ⟨12 + j.val, by have := j.isLt; show 12 + j.val < 18; omega⟩

abbrev barCell (c : Dev nD) : GSem nD τ sig := ((c : Thread nD τ), .reg barS)
abbrev dmaCell (c : Dev nD) (s : DmaSem sig) : GSem nD τ sig := ((c : Thread nD τ), .dma s)

/-- The kernel's own twelve semaphores, and the thirteen of the exchange. -/
abbrev osem (k : Fin 12) : SemLoc sig := .dma ⟨6 + k.val, by have := k.isLt; show 6 + k.val < 18; omega⟩
def csem (k : Fin 13) : SemLoc sig := Fin.cases (.reg barS) osem k
abbrev kcell (ck : Dev nD × Fin 13) : GSem nD τ sig := ((ck.1 : Thread nD τ), csem ck.2)

/-- The device the `j`-th transfer goes to, which is also the one it comes from. -/
abbrev peer (j : Fin 6) (c : Dev nD) : Dev nD := match j with
  | 0 => p1 c | 1 => p2 c | 2 => p2 c | 3 => p1 c | 4 => p1 c | 5 => p2 c

abbrev N : ℕ := a1M.view.dmaCredit
theorem N_pos : 0 < N := View.dmaCredit_pos _ (by decide)

/-! ## The schedule -/

section Schedule

variable (J : Dev nD → Ins F)

/-- What a device's barrier cell hands it: from `p1` its landing buffers of the first and the fourth transfer, from `p2`
    those of the second and the third. -/
def barPay (c : Dev nD) (d : Bool) : sProp 𝕄 :=
  if d then iprop((∃ w, own (p2 c) b1M w) ∗ ∃ w, own (p2 c) a2M w) else iprop((∃ w, own (p1 c) a1M w) ∗ ∃ w, own (p1 c) b2M w)

/-- What the other cells hand a device. -/
def dmaPay (c : Dev nD) : ℕ → sProp 𝕄
  | 8 => own c (accA (ha c)) (A1 J c)
  | 9 => own c (accB (hb c)) (B1 J c)
  | 10 => owns (c.tc : Thread nD τ) (accA (ha c)) fullShare.right (A2 J c)
  | 11 => owns (c.tc : Thread nD τ) (accB (hb c)) fullShare.right (B2 J c)
  | 12 => iprop(own c a1M (colA (prt J (p1 c) (ha c))) ∗ own (p1 c) (accA (ha c)) (colA (prt J (p1 c) (ha c))))
  | 13 => iprop(own c b1M (colB (prt J (p2 c) (hb c))) ∗ own (p2 c) (accB (hb c)) (colB (prt J (p2 c) (hb c))))
  | 14 => own c a2M (A1 J (p2 c))
  | 15 => own c b2M (B1 J (p1 c))
  | 16 => own c (accA (nb (ha c))) (A2 J (p1 c))
  | 17 => own c (accB (nb (hb c))) (B2 J (p2 c))
  | _ => iprop(emp)

instance barPay_storable (c : Dev nD) (d : Bool) : BI.Storable (upEmb : UEmb _ 𝕄) (barPay (F := F) c d) := by
  unfold barPay; split <;> infer_instance
instance dmaPay_storable (c : Dev nD) (n : ℕ) : BI.Storable (upEmb : UEmb _ 𝕄) (dmaPay J c n) := by
  unfold dmaPay; split <;> infer_instance

def dutiesAt (s : SemLoc sig) : Finset Bool := match s with
  | .reg s => if s = barS then Finset.univ else ∅
  | .dma s => if 6 ≤ s.val then {false} else ∅

/-- One round: a barrier cell has two duties of one unit each, a transfer's cell one duty of a quarter's credit. -/
def sched : Rounds.Schedule (GSem nD τ sig) Bool 𝕄 where
  duties g r := if r = 0 ∧ g.1.2 = .tc then dutiesAt g.2 else ∅
  unitless _ := False
  amount g _ _ := match g.2 with | .reg _ => 1 | .dma _ => N
  payload g _ d := match g.2 with | .reg _ => barPay g.1.1 d | .dma s => dmaPay J g.1.1 s.val
  amount_pos g _ _ _ := by
    rcases g with ⟨_, _ | _⟩
    · exact Nat.one_pos
    · exact N_pos

instance sched_payload_storable (g : GSem nD τ sig) (r : ℕ) (d : Bool) :
    BI.Storable (upEmb : UEmb _ 𝕄) ((sched J).payload g r d) := by
  rcases g with ⟨_, _ | _⟩
  · exact barPay_storable _ _
  · exact dmaPay_storable _ _ _

theorem duties_bar (c : Dev nD) : (sched J).duties (barCell c) 0 = Finset.univ := by
  show (if (0 = 0 ∧ (c : Thread nD τ).2 = .tc) then dutiesAt (.reg barS) else ∅) = _
  rw [if_pos ⟨rfl, rfl⟩]; unfold dutiesAt; exact if_pos rfl
theorem duties_dma (c : Dev nD) {s : DmaSem sig} (hs : 6 ≤ s.val) : (sched J).duties (dmaCell c s) 0 = {false} := by
  show (if (0 = 0 ∧ (c : Thread nD τ).2 = .tc) then dutiesAt (.dma s) else ∅) = _
  rw [if_pos ⟨rfl, rfl⟩]; unfold dutiesAt; exact if_pos hs
theorem duties_later (g : GSem nD τ sig) : ∀ r, 1 ≤ r → (sched J).duties g r = ∅ :=
  fun r hr => if_neg fun h => by omega
theorem expect_bar (c : Dev nD) : (sched J).expect (barCell c) 0 = 2 := by
  unfold Schedule.expect Schedule.amountOf
  rw [duties_bar]; rfl
theorem expect_dma (c : Dev nD) {s : DmaSem sig} (hs : 6 ≤ s.val) : (sched J).expect (dmaCell c s) 0 = N := by
  unfold Schedule.expect Schedule.amountOf
  rw [duties_dma J c hs, Finset.sum_singleton]; rfl
theorem rest_bar (c : Dev nD) :
    bigSep ((sched J).duties (barCell c) 0 \ ∅) (fun d => (sched J).payload (barCell c) 0 d) = iprop(barPay c false ∗ barPay c true) := by
  rw [Finset.sdiff_empty, duties_bar, bigSep_univ_eq_bigSepL [false, true] (by decide) (by decide), bigSepL_cons_cons, bigSepL_singleton]
  rfl
theorem rest_dma (c : Dev nD) {s : DmaSem sig} (hs : 6 ≤ s.val) :
    bigSep ((sched J).duties (dmaCell c s) 0 \ ∅) (fun d => (sched J).payload (dmaCell c s) 0 d) = dmaPay J c s.val := by
  rw [Finset.sdiff_empty, duties_dma J c hs, bigSep_singleton]
  rfl

end Schedule

/-! ## What a device owes -/

/-- The receive cell the `j`-th transfer of device `c` pays. -/
abbrev rcv (j : Fin 6) (c : Dev nD) : GSem nD τ sig := dmaCell (peer j c) (rS' j)

/-- What is owed for the transfers of a list. -/
def owe (c : Dev nD) : List (Fin 6) → CellTallies nD τ sig Unit
  | [] => 0
  | j :: l => owe c l + tallyAt (rcv j c) () N

/-- What a device owes at launch: the six transfers and the two barrier signals. -/
def O₁ (c : Dev nD) : CellTallies nD τ sig Unit := owe c [0, 1, 2, 3, 4, 5] + tallyAt (barCell (p2 c)) () 1
def O₀ (c : Dev nD) : CellTallies nD τ sig Unit := O₁ c + tallyAt (barCell (p1 c)) () 1

def L (g : GSem nD τ sig) : Finset Unit := if g.1.2 = .tc then {()} else ∅
def lvS : SemLoc sig → ℕ
  | .reg _ => 1
  | .dma s => if s.val < 12 then 0 else if s.val < 14 then 2 else if s.val < 16 then 3 else 4
/-- The order of the waits. -/
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {l : List (Fin 6)} {g : GSem nD τ sig} {u : Unit} (h : 0 < owe c l g u) : ∃ j ∈ l, g = rcv j c := by
  induction l with
  | nil => exact absurd h (Nat.lt_irrefl 0)
  | cons j l ih =>
    unfold owe at h
    rw [Pi.add_apply, Finsupp.add_apply, tallyAt_apply] at h
    by_cases hg : g = rcv j c
    · exact ⟨j, List.mem_cons_self, hg⟩
    · rw [if_neg (fun h' => hg h'.1), Nat.add_zero] at h
      obtain ⟨j', hj', h'⟩ := ih h
      exact ⟨j', List.mem_cons_of_mem _ hj', h'⟩

/-- A wait below all that is owed. -/
theorem mayWait_owe (c : Dev nD) (s : SemLoc sig) (l : List (Fin 6)) (hl : ∀ j ∈ l, lvS s < lvS (.dma (rS' j))) :
    (levAts L lv : sProp 𝕄) ⊢ MayWait (c : Thread nD τ) s () (owe c l) :=
  MayOwe.of_cut (L := L) (lev := lv) (lvS s) (fun p hp => by rw [Finset.mem_singleton.mp hp, L_tc]; exact Finset.mem_singleton_self _)
    (fun g u hg => by obtain ⟨j, -, rfl⟩ := owe_pos hg; rw [L_tc]; exact Finset.mem_singleton_self _)
    (fun p hp => by rw [Finset.mem_singleton.mp hp]; exact le_refl _)
    (fun g u hg => by obtain ⟨j, hj, rfl⟩ := owe_pos hg; exact hl j hj)

theorem O₀_pos {c : Dev nD} {g : GSem nD τ sig} {u : Unit} (h : 0 < O₀ c g u) :
    (∃ j, g = rcv j c) ∨ g = barCell (p2 c) ∨ g = barCell (p1 c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  simp only [Nat.add_zero] at h
  obtain ⟨j, -, hj⟩ := owe_pos h
  exact hn.1 ⟨j, hj⟩

theorem lvS_rcv : ∀ j : Fin 6, 0 < lvS (.dma (rS' j)) := by decide

theorem lvS_bar : ∀ j : Fin 6, lvS (.reg barS) < lvS (.dma (rS' j)) := by decide

/-- The waits of the staging are below all that is owed at launch. -/
theorem mayWait_stage (c : Dev nD) (q : DmaSem sig) (hq : q.val < 12) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> rw [L_tc] <;> exact Finset.mem_singleton_self _)
      (fun p hp => by rw [Finset.mem_singleton.mp hp]; exact Nat.le_of_eq (if_pos hq))
      (fun g u hg => by
        rcases O₀_pos hg with ⟨j, rfl⟩ | rfl | rfl
        · exact lvS_rcv j
        · exact Nat.one_pos
        · exact Nat.one_pos)
  · rw [MayWait_zero]; iintro -; iempintro

/-! ## The records every device holds -/

section Records

variable (J : Dev nD → Ins F) (K : Dev nD × Fin 13 → ℕ)

/-- The cells' invariants, that each cell is at its round, and the order of the waits. -/
def records : sProp 𝕄 :=
  iprop((bigSep Finset.univ fun ck : Dev nD × Fin 13 => cellInv ER (sched J) (K ck) (kcell ck))
    ∗ (bigSep Finset.univ fun ck : Dev nD × Fin 13 => reached ER (kcell ck) 0) ∗ levAts L lv)

instance records_persistent : BI.Persistent (records J K) := by unfold records; infer_instance

theorem inv_at (ck : Dev nD × Fin 13) : (records J K : sProp 𝕄) ⊢ cellInv ER (sched J) (K ck) (kcell ck) := sep_elim_left.trans (bigSep_elim (Finset.mem_univ ck))
theorem reached_at (ck : Dev nD × Fin 13) : (records J K : sProp 𝕄) ⊢ reached ER (kcell ck) 0 := (sep_elim_right.trans sep_elim_left).trans (bigSep_elim (Finset.mem_univ ck))

theorem lev_at : (records J K : sProp 𝕄) ⊢ levAts L lv := sep_elim_right.trans sep_elim_right
/-- A transfer's receive cell, among the thirteen of its device. -/
theorem kcell_rcv (j : Fin 6) (c : Dev nD) : kcell (peer j c, (Fin.natAdd 6 j).succ) = rcv j c := by
  show ((peer j c : Thread nD τ), osem (Fin.natAdd 6 j)) = _
  refine Prod.ext rfl (congrArg SemLoc.dma (Fin.ext ?_))
  show 6 + (6 + j.val) = 12 + j.val
  omega
theorem inv_to (j : Fin 6) (c : Dev nD) : (records J K : sProp 𝕄) ⊢ cellInv ER (sched J) (K (peer j c, (Fin.natAdd 6 j).succ)) (rcv j c) :=
  (inv_at J K _).trans (Entails.of_eq (by rw [kcell_rcv]))
theorem reached_to (j : Fin 6) (c : Dev nD) : (records J K : sProp 𝕄) ⊢ reached ER (rcv j c) 0 :=
  (reached_at J K (peer j c, (Fin.natAdd 6 j).succ)).trans (Entails.of_eq (by rw [kcell_rcv]))

/-- What a device owes, whatever it has waited for. -/
def ow (c : Dev nD) (O : CellTallies nD τ sig Unit) : sProp 𝕄 := iprop(∃ W, owes (c : Thread nD τ) O W)

variable {α : Type} {c : Dev nD}

/-- A signal to a neighbour's barrier. -/
theorem signal_spec {Q : α → sProp 𝕄} {n n' : Dev nD} (hn : n = n') (d : Bool) (O : CellTallies nD τ sig Unit)
    {k : PUnit → Prog (TpuEff nD τ sig (Elt F) Λ₀ .tc) α} :
    (records J K ∗ ow c (O + tallyAt (barCell n') () 1) ∗ dutyTok ER (barCell n') 0 d ∗ barPay n' d : sProp 𝕄)
      ⊢ iprop((ow c O -∗ wp frame (wpE (defs₀ (F := F)) 𝒱₀ (c.tc : Thread nD τ) none) Set.univ (k ⟨⟩) Q)
          -∗ wp frame (wpE (defs₀ (F := F)) 𝒱₀ (c.tc : Thread nD τ) none) Set.univ (.op (.semSignal (n.tc : Thread nD τ) barS 1) k) Q) := by
  subst hn
  unfold ow
  iintro ⟨#HR, ⟨%W, HO⟩, Ht, Hp⟩ Hk
  iapply (Rounds.wp_signal 𝒱₀ ER (sched J) (c : Thread nD τ) none (dst := (n : Thread nD τ)) (κ := K (n, 0))
      (d := d) (by rw [duties_bar]; exact Finset.mem_univ _) rfl () O rfl) $$ [HO Ht Hp]
  · isplitr; · iapply (inv_at J K (n, 0)); iexact HR
    isplitl [HO]; · iexact HO
    isplitl [Ht]; · iexact Ht
    isplitl [Hp]; · iapply (Entails.of_eq (show barPay n d = (sched J).payload (barCell n) 0 d from rfl)); iexact Hp
    iapply (reached_at J K (n, 0)); iexact HR
  iintro HO
  iapply Hk
  iexists W; iexact HO

/-- The wait on the barrier. -/
theorem wait_bar {Q : α → sProp 𝕄} (l : List (Fin 6))
    {k : PUnit → Prog (TpuEff nD τ sig (Elt F) Λ₀ .tc) α} :
    (records J K ∗ cred (tallyAt (barCell c) () 2) ∗ ow c (owe c l) ∗ atPos ER (barCell c) 0 ∅ 0 : sProp 𝕄)
      ⊢ iprop(((ow c (owe c l) ∗ semVal (barCell c) 0 ∗ barPay c false ∗ barPay c true) -∗ wp frame (wpE (defs₀ (F := F)) 𝒱₀ (c.tc : Thread nD τ) none) Set.univ (k ⟨⟩) Q)
          -∗ wp frame (wpE (defs₀ (F := F)) 𝒱₀ (c.tc : Thread nD τ) none) Set.univ (.op (.semWait barS 2) k) Q) := by
  unfold ow
  iintro ⟨#HR, Hc, ⟨%W, HO⟩, Hat⟩ Hk
  iapply (Rounds.wp_wait_rest_token 𝒱₀ ER (sched J) (c : Thread nD τ) none (κ := K (c, 0))
      (wpE_semWait_eq 𝒱₀ (c : Thread nD τ) none Set.univ) (Set.mem_univ _) () (O := owe c l) (W := W) (R := 0) (m := 0) (T := ∅)
      (by rw [expect_bar])) $$ [Hc HO Hat]
  · isplitr; · iapply (inv_at J K (c, 0)); iexact HR
    isplitl [Hc]; · iexact Hc
    isplitl [HO]; · iexact HO
    isplitr; · iapply (mayWait_owe c (.reg barS) l (fun j _ => lvS_bar j)); iapply (lev_at J K); iexact HR
    iexact Hat
  iintro ⟨HO, Hat, -, Hpay⟩
  ihave Hp := (Entails.of_eq (rest_bar J c)) $$ Hpay
  imod (Rounds.cell_close ER (sched J) (Set.mem_univ (K (c, 0))) (fun h => h) (R := 0 + 1) (duties_later J (barCell c))) $$ [Hat] with Hz
  · isplitr; · iapply (inv_at J K (c, 0)); iexact HR
    iexact Hat
  iapply Hk
  isplitl [HO]; · iexists (insert (SemLoc.reg barS, ()) W); iexact HO
  isplitl [Hz]; · iexact Hz
  iexact Hp

/-- A wait on a transfer's cell. -/
theorem wait_dma {Q : α → sProp 𝕄} (i : Fin 12) {sm : DmaSem sig} (hi : sm = ⟨6 + i.val, by have := i.isLt; show 6 + i.val < 18; omega⟩) (l : List (Fin 6)) (hl : ∀ j ∈ l, lvS (osem i) < lvS (.dma (rS' j)))
    {src dst : Memref sig .tc .vmem S1x128x256 .bf16}
    {hsrc : src.view.WordExact} {hdst : dst.view.WordExact}
    {k : PUnit → Prog (TpuEff nD τ sig (Elt F) Λ₀ .tc) α} :
    (records J K ∗ cred (tallyAt (dmaCell c sm) () N) ∗ ow c (owe c l) ∗ atPos ER (kcell (c, i.succ)) 0 ∅ 0 : sProp 𝕄)
      ⊢ iprop(((ow c (owe c l) ∗ semVal (kcell (c, i.succ)) 0 ∗ dmaPay J c (6 + i.val)) -∗ wp frame (wpE (defs₀ (F := F)) 𝒱₀ (c.tc : Thread nD τ) none) Set.univ (k ⟨⟩) Q)
          -∗ wp frame (wpE (defs₀ (F := F)) 𝒱₀ (c.tc : Thread nD τ) none) Set.univ (.op (.waitDma2 sm src dst hsrc hdst) k) Q) := by
  have hN : dst.view.amount (.dma sm) = N := rfl
  have hge : 6 ≤ sm.val := by rw [hi]; exact Nat.le_add_right _ _
  have hg : kcell (c, i.succ) = dmaCell c sm := by rw [hi]; rfl
  have hv : 6 + i.val = sm.val := by rw [hi]
  rw [hg, hv]
  have hI := inv_at J K (c, i.succ)
  rw [hg] at hI
  unfold ow
  iintro ⟨#HR, Hc, ⟨%W, HO⟩, Hat⟩ Hk
  iapply (Rounds.wp_wait_rest_token 𝒱₀ ER (sched J) (c : Thread nD τ) none (κ := K (c, i.succ))
      (wpE_waitDma2_eq 𝒱₀ (c : Thread nD τ) none Set.univ) (Set.mem_univ _) () (O := owe c l) (W := W) (R := 0) (m := 0) (T := ∅)
      (by rw [expect_dma J c hge, Nat.zero_add])) $$ [Hc HO Hat]
  · isplitr; · iapply hI; iexact HR
    isplitl [Hc]; · iapply (Entails.of_eq (by rw [hN] : (cred (tallyAt (dmaCell c sm) () N) : sProp 𝕄) = cred (tallyAt (dmaCell c sm) () (dst.view.amount (.dma sm))))); iexact Hc
    isplitl [HO]; · iexact HO
    isplitr; · iapply (mayWait_owe c (.dma sm) l (by rw [hi]; exact hl)); iapply (lev_at J K); iexact HR
    iexact Hat
  iintro ⟨HO, Hat, -, Hpay⟩
  ihave Hp := (Entails.of_eq (rest_dma J c hge)) $$ Hpay
  imod (Rounds.cell_close ER (sched J) (Set.mem_univ (K (c, i.succ))) (fun h => h) (R := 0 + 1) (duties_later J (dmaCell c sm))) $$ [Hat] with Hz
  · isplitr; · iapply hI; iexact HR
    iexact Hat
  iapply Hk
  isplitl [HO]; · iexists (insert (SemLoc.dma _, ()) W); iexact HO
  isplitl [Hz]; · iexact Hz
  iexact Hp

/-- A transfer, its source handed on with what lands. -/
theorem send_land {Q : α → sProp 𝕄} (j : Fin 6) {n : Dev nD} (hn : n = peer j c) {s₁ s₂ : DmaSem sig} (h₁ : s₁ = sS j) (h₂ : s₂ = rS' j)
    {src : Memref sig .tc .vmem S1x128x256 .bf16} (src' : Memref sig .tc .vmem S1x128x256 .bf16) (hs : src = src')
    {dst : Memref sig (Dev.tc n : Thread nD τ).2.kind .vmem S1x128x256 .bf16} (dst' : Memref sig .tc .vmem S1x128x256 .bf16) (hd : dst = dst')
    (l : List (Fin 6)) (v : S1x128x256.Idx → Elt F .bf16)
    (hp₁ : (iprop(emp) : sProp 𝕄) ⊢ dmaPay J c (6 + j.val))
    (hp₂ : iprop(own (peer j c) dst' v ∗ own c src' v) ⊢ dmaPay J (peer j c) (12 + j.val))
    {hsc : dst.view.ref.isScScratch = false} {hsrc : src.view.WordExact} {hdst : dst.view.WordExact}
    {hsem : DmaTarget.Typed .vmem (.dma s₂) (.remote (Dev.tc n : Thread nD τ) dst (.dma s₁) hsc)}
    {k : PUnit → Prog (TpuEff nD τ sig (Elt F) Λ₀ .tc) α} :
    (records J K ∗ own c src' v ∗ (∃ w, own (peer j c) dst' w) ∗ ow c (owe c (j :: l)) ∗ dutyTok ER (dmaCell c (sS j)) 0 false ∗ dutyTok ER (rcv j c) 0 false : sProp 𝕄)
      ⊢ iprop(((cred (tallyAt (dmaCell c (sS j)) () N) ∗ ow c (owe c l)) -∗ wp frame (wpE (defs₀ (F := F)) 𝒱₀ (c.tc : Thread nD τ) none) Set.univ (k ⟨⟩) Q)
          -∗ wp frame (wpE (defs₀ (F := F)) 𝒱₀ (c.tc : Thread nD τ) none) Set.univ
              (.op (.enqueueDma src (.remote (Dev.tc n : Thread nD τ) dst (.dma s₁) hsc) (.dma s₂) hsrc hdst hsem) k) Q) := by
  subst hn h₁ h₂ hs hd
  unfold ow own owns
  iintro ⟨#HR, ⟨%fs, %hfs, Hs⟩, ⟨%w, %fd, -, Hd⟩, ⟨%W, HO⟩, Ht₁, Ht₂⟩ Hk
  iapply (Rounds.wp_send_landing_pointsTo 𝒱₀ ER (sched J) (c : Thread nD τ) none (q := fullShare) (κ₁ := K (c, (Fin.castAdd 6 j).succ)) (κ₂ := K (peer j c, (Fin.natAdd 6 j).succ))
    (r₁ := 0) (r₂ := 0) (d₁ := false) (d₂ := false) (fd := fd)
    (by rw [duties_dma J c (Nat.le_add_right _ _)]; exact Finset.mem_singleton_self _)
    (by rw [duties_dma J (peer j c) (show 6 ≤ 12 + j.val by omega)]; exact Finset.mem_singleton_self _)
    () () N rfl rfl rfl (owe c l) rfl (W := W) (show iprop(emp) ⊢ (sched J).payload (dmaCell c (sS j)) 0 false from hp₁)
    (by
      refine BIBase.Entails.trans ?_ (show _ ⊢ (sched J).payload (rcv j c) 0 false from hp₂)
      unfold own owns
      iintro ⟨H1, H2⟩
      isplitl [H1]
      · iexists (dst.view.write (Elt F) fd (src.view.read (Elt F) fs) Finset.univ)
        isplitr; · ipureintro; rw [View.read_write_univ]; exact hfs
        iexact H1
      · iexists fs
        isplitr; · ipureintro; exact hfs
        iexact H2)) $$ [Hs Hd HO Ht₁ Ht₂]
  · isplitr; · iapply (inv_at J K (c, (Fin.castAdd 6 j).succ)); iexact HR
    isplitr; · iapply (inv_to J K j c); iexact HR
    isplitl [Hs]; · iexact Hs
    isplitl [Hd]; · iexact Hd
    isplitl [HO]; · iexact HO
    isplitl [Ht₁]; · iexact Ht₁
    isplitr; · iapply (reached_at J K (c, (Fin.castAdd 6 j).succ)); iexact HR
    isplitl [Ht₂]; · iexact Ht₂
    iapply (reached_to J K j c); iexact HR
  iintro ⟨Hc, HO⟩
  iapply Hk
  isplitl [Hc]; · iexact Hc
  iexists W; iexact HO

/-- A transfer, its source lent until the send cell hands it back. -/
theorem send_lend {Q : α → sProp 𝕄} (j : Fin 6) {n : Dev nD} (hn : n = peer j c) {s₁ s₂ : DmaSem sig} (h₁ : s₁ = sS j) (h₂ : s₂ = rS' j)
    {src : Memref sig .tc .vmem S1x128x256 .bf16} (src' : Memref sig .tc .vmem S1x128x256 .bf16) (hs : src = src')
    {dst : Memref sig (Dev.tc n : Thread nD τ).2.kind .vmem S1x128x256 .bf16} (dst' : Memref sig .tc .vmem S1x128x256 .bf16) (hd : dst = dst')
    (q : PosShare TreeShare)
    (l : List (Fin 6)) (v : S1x128x256.Idx → Elt F .bf16)
    (hp₁ : (owns (c.tc : Thread nD τ) src' q v : sProp 𝕄) ⊢ dmaPay J c (6 + j.val))
    (hp₂ : (own (peer j c) dst' v : sProp 𝕄) ⊢ dmaPay J (peer j c) (12 + j.val))
    {hsc : dst.view.ref.isScScratch = false} {hsrc : src.view.WordExact} {hdst : dst.view.WordExact}
    {hsem : DmaTarget.Typed .vmem (.dma s₂) (.remote (Dev.tc n : Thread nD τ) dst (.dma s₁) hsc)}
    {k : PUnit → Prog (TpuEff nD τ sig (Elt F) Λ₀ .tc) α} :
    (records J K ∗ owns (c.tc : Thread nD τ) src' q v ∗ (∃ w, own (peer j c) dst' w) ∗ ow c (owe c (j :: l)) ∗ dutyTok ER (dmaCell c (sS j)) 0 false ∗ dutyTok ER (rcv j c) 0 false : sProp 𝕄)
      ⊢ iprop(((cred (tallyAt (dmaCell c (sS j)) () N) ∗ ow c (owe c l)) -∗ wp frame (wpE (defs₀ (F := F)) 𝒱₀ (c.tc : Thread nD τ) none) Set.univ (k ⟨⟩) Q)
          -∗ wp frame (wpE (defs₀ (F := F)) 𝒱₀ (c.tc : Thread nD τ) none) Set.univ
              (.op (.enqueueDma src (.remote (Dev.tc n : Thread nD τ) dst (.dma s₁) hsc) (.dma s₂) hsrc hdst hsem) k) Q) := by
  subst hn h₁ h₂ hs hd
  unfold ow own owns
  iintro ⟨#HR, ⟨%fs, %hfs, Hs⟩, ⟨%w, %fd, -, Hd⟩, ⟨%W, HO⟩, Ht₁, Ht₂⟩ Hk
  iapply (Rounds.wp_send_pointsTo 𝒱₀ ER (sched J) (c : Thread nD τ) none (q := q) (κ₁ := K (c, (Fin.castAdd 6 j).succ)) (κ₂ := K (peer j c, (Fin.natAdd 6 j).succ))
    (r₁ := 0) (r₂ := 0) (d₁ := false) (d₂ := false) (fd := fd)
    (by rw [duties_dma J c (Nat.le_add_right _ _)]; exact Finset.mem_singleton_self _)
    (by rw [duties_dma J (peer j c) (show 6 ≤ 12 + j.val by omega)]; exact Finset.mem_singleton_self _)
    () () N rfl rfl rfl (owe c l) rfl (W := W)
    (by
      refine BIBase.Entails.trans ?_ (show _ ⊢ (sched J).payload (dmaCell c (sS j)) 0 false from hp₁)
      unfold owns
      iintro H2
      iexists fs
      isplitr; · ipureintro; exact hfs
      iexact H2)
    (by
      refine BIBase.Entails.trans ?_ (show _ ⊢ (sched J).payload (rcv j c) 0 false from hp₂)
      unfold own owns
      iintro H1
      iexists (dst.view.write (Elt F) fd (src.view.read (Elt F) fs) Finset.univ)
      isplitr; · ipureintro; rw [View.read_write_univ]; exact hfs
      iexact H1)) $$ [Hs Hd HO Ht₁ Ht₂]
  · isplitr; · iapply (inv_at J K (c, (Fin.castAdd 6 j).succ)); iexact HR
    isplitr; · iapply (inv_to J K j c); iexact HR
    isplitl [Hs]; · iexact Hs
    isplitl [Hd]; · iexact Hd
    isplitl [HO]; · iexact HO
    isplitl [Ht₁]; · iexact Ht₁
    isplitr; · iapply (reached_at J K (c, (Fin.castAdd 6 j).succ)); iexact HR
    isplitl [Ht₂]; · iexact Ht₂
    iapply (reached_to J K j c); iexact HR
  iintro ⟨Hc, HO⟩
  iapply Hk
  isplitl [Hc]; · iexact Hc
  iexists W; iexact HO

end Records

end Cert.KProof
end
-- ==== Proof.Body.lean ====
/-
The body's exchange, part by part, and the whole body: from a device's buffers, its places in the exchange and its
arguments to its block of the result.
-/
module

public import proofs.«01_k».proof.Proof.Sched

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {α : Type} {c : Dev nD} (J : Dev nD → Ins F) (K : Dev nD × Fin 13 → ℕ)

/-- A slice by the offsets it is taken at. -/
theorem slice_eq {s : Shape} {e : EltTy} (m : Memref sig .tc .vmem s e) {o o' : Fin s.rank → ℕ} {sz : Fin s.rank → ℕ}
    {hb : ∀ a, o a + sz a ≤ s.size a} {hb' : ∀ a, o' a + sz a ≤ s.size a} (ho : o = o') :
    m.slice (Rect.unit o sz hb) (fun _ => rfl) = m.slice (Rect.unit o' sz hb') (fun _ => rfl) := by
  subst ho; rfl

/-! The semaphores of the transfers. -/

theorem semS0 : ((cc0_scratch6.slice (Rect.unit (s := S6) ![0] S1.size inb_S6_S1_0)).squeeze S_ squeezes_S1_S_).sem = sS 0 := rfl
theorem semR0 : ((cc0_scratch7.slice (Rect.unit (s := S6) ![0] S1.size inb_S6_S1_0)).squeeze S_ squeezes_S1_S_).sem = rS' 0 := rfl
theorem semS1 : ((cc0_scratch6.slice (Rect.unit (s := S6) ![1] S1.size inb_S6_S1_1)).squeeze S_ squeezes_S1_S_).sem = sS 1 := rfl
theorem semR1 : ((cc0_scratch7.slice (Rect.unit (s := S6) ![1] S1.size inb_S6_S1_1)).squeeze S_ squeezes_S1_S_).sem = rS' 1 := rfl
theorem semS2 : ((cc0_scratch6.slice (Rect.unit (s := S6) ![2] S1.size inb_S6_S1_2)).squeeze S_ squeezes_S1_S_).sem = sS 2 := rfl
theorem semR2 : ((cc0_scratch7.slice (Rect.unit (s := S6) ![2] S1.size inb_S6_S1_2)).squeeze S_ squeezes_S1_S_).sem = rS' 2 := rfl
theorem semS3 : ((cc0_scratch6.slice (Rect.unit (s := S6) ![3] S1.size inb_S6_S1_3)).squeeze S_ squeezes_S1_S_).sem = sS 3 := rfl
theorem semR3 : ((cc0_scratch7.slice (Rect.unit (s := S6) ![3] S1.size inb_S6_S1_3)).squeeze S_ squeezes_S1_S_).sem = rS' 3 := rfl
theorem semS4 : ((cc0_scratch6.slice (Rect.unit (s := S6) ![4] S1.size inb_S6_S1_4)).squeeze S_ squeezes_S1_S_).sem = sS 4 := rfl
theorem semR4 : ((cc0_scratch7.slice (Rect.unit (s := S6) ![4] S1.size inb_S6_S1_4)).squeeze S_ squeezes_S1_S_).sem = rS' 4 := rfl
theorem semS5 : ((cc0_scratch6.slice (Rect.unit (s := S6) ![5] S1.size inb_S6_S1_5)).squeeze S_ squeezes_S1_S_).sem = sS 5 := rfl
theorem semR5 : ((cc0_scratch7.slice (Rect.unit (s := S6) ![5] S1.size inb_S6_S1_5)).squeeze S_ squeezes_S1_S_).sem = rS' 5 := rfl

/-! What the exchange's messages are, read at the neighbour they go to. -/

theorem barPay_p1 : (barPay (F := F) (p1 c) false) = iprop((∃ w, own c a1M w) ∗ ∃ w, own c b2M w) := by
  unfold barPay; rw [if_neg Bool.false_ne_true, p1_p1]
theorem barPay_p2 : (barPay (F := F) (p2 c) true) = iprop((∃ w, own c b1M w) ∗ ∃ w, own c a2M w) := by
  unfold barPay; rw [if_pos rfl, p2_p2]
theorem pay_bar1 : (barPay (F := F) c false) = iprop((∃ w, own (p1 c) a1M w) ∗ ∃ w, own (p1 c) b2M w) := if_neg Bool.false_ne_true
theorem pay_bar2 : (barPay (F := F) c true) = iprop((∃ w, own (p2 c) b1M w) ∗ ∃ w, own (p2 c) a2M w) := if_pos rfl

theorem land0 : iprop(own (p1 c) a1M (colA (prt J c (nb (ha c)))) ∗ own c (accA (nb (ha c))) (colA (prt J c (nb (ha c))))) ⊢ dmaPay J (p1 c) 12 := by
  show _ ⊢ iprop(own (p1 c) a1M (colA (prt J (p1 (p1 c)) (ha (p1 c)))) ∗ own (p1 (p1 c)) (accA (ha (p1 c))) (colA (prt J (p1 (p1 c)) (ha (p1 c)))))
  rw [p1_p1, ha_p1]
theorem land1 : iprop(own (p2 c) b1M (colB (prt J c (nb (hb c)))) ∗ own c (accB (nb (hb c))) (colB (prt J c (nb (hb c))))) ⊢ dmaPay J (p2 c) 13 := by
  show _ ⊢ iprop(own (p2 c) b1M (colB (prt J (p2 (p2 c)) (hb (p2 c)))) ∗ own (p2 (p2 c)) (accB (hb (p2 c))) (colB (prt J (p2 (p2 c)) (hb (p2 c)))))
  rw [p2_p2, hb_p2]
theorem land2 : own (p2 c) a2M (A1 J c) ⊢ dmaPay J (p2 c) 14 := by
  show _ ⊢ own (p2 c) a2M (A1 J (p2 (p2 c)))
  rw [p2_p2]
theorem land3 : own (p1 c) b2M (B1 J c) ⊢ dmaPay J (p1 c) 15 := by
  show _ ⊢ own (p1 c) b2M (B1 J (p1 (p1 c)))
  rw [p1_p1]
theorem land4 : own (p1 c) (accA (ha c)) (A2 J c) ⊢ dmaPay J (p1 c) 16 := by
  show _ ⊢ own (p1 c) (accA (nb (ha (p1 c)))) (A2 J (p1 (p1 c)))
  rw [p1_p1, ha_p1, nb_nb]
theorem land5 : own (p2 c) (accB (hb c)) (B2 J c) ⊢ dmaPay J (p2 c) 17 := by
  show _ ⊢ own (p2 c) (accB (nb (hb (p2 c)))) (B2 J (p2 (p2 c)))
  rw [p2_p2, hb_p2, nb_nb]

/-- The first batch stored, the neighbours met, and its left half sent. -/
theorem part8_spec {Q : α → sProp 𝕄} {k : (Σ' (v300 : FVec F S128x512 .bf16) (v301 : FVec F S128x64 .bf16), FVec F S128x64 .bf16) → Prog (TpuEff nD τ sig (Elt F) Λ₀ .tc) α} {v3 v4 v7 : BitVec 32} {w : S1x128x512.Idx → Elt F .bf16} :
    (records J K ∗ own c xM (J c).x ∗ own c kM (J c).k ∗ own c (accR (nb (ha c))) w ∗ ow c (O₀ c) ∗ dutyTok ER (barCell (p1 c)) 0 false ∗ dutyTok ER (barCell (p2 c)) 0 true ∗ ((∃ w, own c a1M w) ∗ (∃ w, own c b2M w)) ∗ ((∃ w, own c b1M w) ∗ (∃ w, own c a2M w)) ∗ cred (tallyAt (barCell c) () 2) ∗ atPos ER (barCell c) 0 ∅ 0 ∗ dutyTok ER (dmaCell c (sS 0)) 0 false ∗ dutyTok ER (rcv 0 c) 0 false : sProp 𝕄)
      ⊢ iprop(((own c xM (J c).x ∗ own c kM (J c).k ∗ own c (accB (nb (ha c))) (colB (prt J c (nb (ha c)))) ∗ ow c (owe c [1, 2, 3, 4, 5]) ∗ cred (tallyAt (dmaCell c (sS 0)) () N) ∗ semVal (barCell c) 0 ∗ (∃ w, own (p2 c) b1M w) ∗ (∃ w, own (p2 c) a2M w) ∗ (∃ w, own (p1 c) b2M w)) -∗ wp frame (wpE (defs₀ (F := F)) 𝒱₀ (c.tc : Thread nD τ) none) Set.univ (k ⟨qS (J c) (ha c), k0_pay28 (k0_pay1 (J c).wq) (xRow (J c) (ha c)), k0_pay29 (kHd (J c) (ha c) 0)⟩) Q)
          -∗ wp frame (wpE (defs₀ (F := F)) 𝒱₀ (c.tc : Thread nD τ) none) Set.univ (k0_part8 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v3 v4 v7 (k0_pay1 (J c).wq) (k0_pay25 (k0_pay2 (J c).wo) (attnOf (headF (J c) (nb (ha c))))) >>= k) Q) := by
  simp only [k0_part8_eq_skeleton, k0_part8_skel, semSignalWord, semWaitWord, Prog.lift, Prog.bind_op, Prog.bind_ret, Prog.pure_eq_ret]
  iintro ⟨#HR, HX, HK, HA, HO, HT1, HT2, HP1, HP2, HCb, HAt, HS0, HV0⟩ Hk
  iapply (ld_slice accM (oR (nb (ha c))) (off1_eq c)) $$ HA; iintro HA
  iapply (st_slice accM (oR (nb (ha c))) (off1_eq c)) $$ HA; iintro HA
  ihave HA := (Entails.of_eq (show own c (accR (nb (ha c))) (k0_pay26 (k0_pay25 (k0_pay2 (J c).wo) (attnOf (headF (J c) (nb (ha c)))))) = own c (accR (nb (ha c))) (rowF (J c) (nb (ha c))) from rfl)) $$ HA
  ihave HA' := (row_halves (c := c) (nb (ha c)) (rowF (J c) (nb (ha c)))) $$ HA
  rw [← prt_nb J c]
  icases HA' with ⟨HAA, HAB⟩
  iapply (signal_spec J K (c := c) (dev1_eq c) false (O₁ c)) $$ [HO HT1 HP1]
  · isplitr; · iexact HR
    isplitl [HO]; · iexact HO
    isplitl [HT1]; · iexact HT1
    rw [barPay_p1]; iexact HP1
  iintro HO
  unfold O₁
  iapply (signal_spec J K (c := c) (dev2_eq c) true (owe c [0, 1, 2, 3, 4, 5])) $$ [HO HT2 HP2]
  · isplitr; · iexact HR
    isplitl [HO]; · iexact HO
    isplitl [HT2]; · iexact HT2
    rw [barPay_p2]; iexact HP2
  iintro HO
  iapply (wait_bar J K (c := c) [0, 1, 2, 3, 4, 5]) $$ [HCb HO HAt]
  · isplitr; · iexact HR
    isplitl [HCb]; · iexact HCb
    isplitl [HO]; · iexact HO
    iexact HAt
  iintro ⟨HO, HZb, HQ1, HQ2⟩
  ihave HQ1 := (Entails.of_eq pay_bar1) $$ HQ1
  ihave HQ2 := (Entails.of_eq pay_bar2) $$ HQ2
  icases HQ1 with ⟨HD0, HD3⟩
  icases HQ2 with ⟨HD1, HD2⟩
  iapply (send_land J K (c := c) 0 (dev3_eq c) semS0 semR0 (accA (nb (ha c))) (slice_eq accM (off10_eq c)) a1M rfl [1, 2, 3, 4, 5] (colA (prt J c (nb (ha c)))) (BI.Entails.refl _) (land0 J)) $$ [HAA HD0 HO HS0 HV0]
  · isplitr; · iexact HR
    isplitl [HAA]; · iexact HAA
    isplitl [HD0]; · iexact HD0
    isplitl [HO]; · iexact HO
    isplitl [HS0]; · iexact HS0
    iexact HV0
  iintro ⟨HC0, HO⟩
  iapply (ld_part xM (oR (ha c)) (off11_eq c)) $$ HX; iintro HX
  iapply (ld_part kM (oH (ha c) 0) (off12_eq c)) $$ HK; iintro HK
  iapply Hk $$ [HX HK HAB HO HC0 HZb HD1 HD2 HD3]
  isplitl [HX]; · iexact HX
  isplitl [HK]; · iexact HK
  isplitl [HAB]; · iexact HAB
  isplitl [HO]; · iexact HO
  isplitl [HC0]; · iexact HC0
  isplitl [HZb]; · iexact HZb
  isplitl [HD1]; · iexact HD1
  isplitl [HD2]; · iexact HD2
  iexact HD3

/-- The second batch stored, its right half sent, and the left half of the first batch received. -/
theorem part15_spec {Q : α → sProp 𝕄} {k : (FVec F S1x128x256 .bf16) → Prog (TpuEff nD τ sig (Elt F) Λ₀ .tc) α} {v3 v4 v7 v9 : BitVec 32} {w : S1x128x512.Idx → Elt F .bf16} :
    (records J K ∗ own c (accR (ha c)) w ∗ own c (accB (nb (ha c))) (colB (prt J c (nb (ha c)))) ∗ ow c (owe c [1, 2, 3, 4, 5]) ∗ cred (tallyAt (dmaCell c (sS 0)) () N) ∗ (∃ w, own (p2 c) b1M w) ∗ dutyTok ER (dmaCell c (sS 1)) 0 false ∗ dutyTok ER (rcv 1 c) 0 false ∗ atPos ER (kcell (c, (0 : Fin 12).succ)) 0 ∅ 0 ∗ atPos ER (kcell (c, (6 : Fin 12).succ)) 0 ∅ 0 ∗ cred (tallyAt (dmaCell c (rS' 0)) () N) : sProp 𝕄)
      ⊢ iprop(((own c (accA (ha c)) (colA (prt J c (ha c))) ∗ own c (accB (hb c)) (colB (prt J c (hb c))) ∗ ow c (owe c [2, 3, 4, 5]) ∗ cred (tallyAt (dmaCell c (sS 1)) () N) ∗ semVal (kcell (c, (0 : Fin 12).succ)) 0 ∗ semVal (kcell (c, (6 : Fin 12).succ)) 0 ∗ own c a1M (colA (prt J (p1 c) (ha c))) ∗ own (p1 c) (accA (ha c)) (colA (prt J (p1 c) (ha c)))) -∗ wp frame (wpE (defs₀ (F := F)) 𝒱₀ (c.tc : Thread nD τ) none) Set.univ (k (k0_pay50 (colA (prt J c (ha c))) (colA (prt J (p1 c) (ha c))))) Q)
          -∗ wp frame (wpE (defs₀ (F := F)) 𝒱₀ (c.tc : Thread nD τ) none) Set.univ (k0_part15 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v3 v4 v7 v9 (k0_pay48 (k0_pay2 (J c).wo) (attnOf (headS (J c) (ha c)))) >>= k) Q) := by
  simp only [k0_part15_eq_skeleton, k0_part15_skel, semSignalWord, semWaitWord, Prog.lift, Prog.bind_op, Prog.bind_ret, Prog.pure_eq_ret]
  iintro ⟨#HR, HA, HAB, HO, HC0, HD1, HS1, HV1, HAt0, HAt6, HR0⟩ Hk
  iapply (ld_slice accM (oR (ha c)) (off11_eq c)) $$ HA; iintro HA
  iapply (st_slice accM (oR (ha c)) (off11_eq c)) $$ HA; iintro HA
  ihave HA := (Entails.of_eq (show own c (accR (ha c)) (k0_pay49 (k0_pay48 (k0_pay2 (J c).wo) (attnOf (headS (J c) (ha c))))) = own c (accR (ha c)) (rowS (J c) (ha c)) from rfl)) $$ HA
  ihave HA' := (row_halves (c := c) (ha c) (rowS (J c) (ha c))) $$ HA
  rw [← prt_ha J c]
  icases HA' with ⟨HAA, HAC⟩
  ihave HB : iprop(own c (accB (hb c)) (colB (prt J c (hb c))) ∗ own c (accB (nb (hb c))) (colB (prt J c (nb (hb c))))) $$ [HAC HAB]
  · iapply (pair_nb (fun b => own c (accB b) (colB (prt J c b))) (hb c))
    iapply (nb_pair (fun b => own c (accB b) (colB (prt J c b))) (ha c))
    isplitl [HAC]; · iexact HAC
    iexact HAB
  icases HB with ⟨HBB, HBN⟩
  iapply (send_land J K (c := c) 1 (dev4_eq c) semS1 semR1 (accB (nb (hb c))) (slice_eq accM (off20_eq c)) b1M rfl [2, 3, 4, 5] (colB (prt J c (nb (hb c)))) (BI.Entails.refl _) (land1 J)) $$ [HBN HD1 HO HS1 HV1]
  · isplitr; · iexact HR
    isplitl [HBN]; · iexact HBN
    isplitl [HD1]; · iexact HD1
    isplitl [HO]; · iexact HO
    isplitl [HS1]; · iexact HS1
    iexact HV1
  iintro ⟨HC1, HO⟩
  iapply (wait_dma J K (c := c) 0 semS0 [2, 3, 4, 5] (by decide)) $$ [HC0 HO HAt0]
  · isplitr; · iexact HR
    isplitl [HC0]; · iexact HC0
    isplitl [HO]; · iexact HO
    iexact HAt0
  iintro ⟨HO, HZ0, -⟩
  iapply (wait_dma J K (c := c) 6 semR0 [2, 3, 4, 5] (by decide)) $$ [HR0 HO HAt6]
  · isplitr; · iexact HR
    isplitl [HR0]; · iexact HR0
    isplitl [HO]; · iexact HO
    iexact HAt6
  iintro ⟨HO, HZ6, Hp⟩
  ihave Hp' := (Entails.of_eq (show dmaPay J c 12 = iprop(own c a1M (colA (prt J (p1 c) (ha c))) ∗ own (p1 c) (accA (ha c)) (colA (prt J (p1 c) (ha c)))) from rfl)) $$ Hp
  icases Hp' with ⟨HL0, HD4⟩
  iapply (ld_slice accM (oA (ha c)) (off21_eq c)) $$ HAA; iintro HAA
  iapply (ld_full a1M (by decide)) $$ HL0; iintro HL0
  iapply Hk $$ [HAA HBB HO HC1 HZ0 HZ6 HL0 HD4]
  isplitl [HAA]; · iexact HAA
  isplitl [HBB]; · iexact HBB
  isplitl [HO]; · iexact HO
  isplitl [HC1]; · iexact HC1
  isplitl [HZ0]; · iexact HZ0
  isplitl [HZ6]; · iexact HZ6
  isplitl [HL0]; · iexact HL0
  iexact HD4

/-- The first sum of the left half sent on, and the right half received and added. -/
theorem part16_spec {Q : α → sProp 𝕄} {k : PUnit → Prog (TpuEff nD τ sig (Elt F) Λ₀ .tc) α} {v4 v9 : BitVec 32} :
    (records J K ∗ own c (accA (ha c)) (colA (prt J c (ha c))) ∗ own c (accB (hb c)) (colB (prt J c (hb c))) ∗ ow c (owe c [2, 3, 4, 5]) ∗ cred (tallyAt (dmaCell c (sS 1)) () N) ∗ (∃ w, own (p2 c) a2M w) ∗ dutyTok ER (dmaCell c (sS 2)) 0 false ∗ dutyTok ER (rcv 2 c) 0 false ∗ atPos ER (kcell (c, (1 : Fin 12).succ)) 0 ∅ 0 ∗ atPos ER (kcell (c, (7 : Fin 12).succ)) 0 ∅ 0 ∗ cred (tallyAt (dmaCell c (rS' 1)) () N) : sProp 𝕄)
      ⊢ iprop(((own c (accB (hb c)) (B1 J c) ∗ ow c (owe c [3, 4, 5]) ∗ cred (tallyAt (dmaCell c (sS 2)) () N) ∗ semVal (kcell (c, (1 : Fin 12).succ)) 0 ∗ semVal (kcell (c, (7 : Fin 12).succ)) 0 ∗ own c b1M (colB (prt J (p2 c) (hb c))) ∗ own (p2 c) (accB (hb c)) (colB (prt J (p2 c) (hb c)))) -∗ wp frame (wpE (defs₀ (F := F)) 𝒱₀ (c.tc : Thread nD τ) none) Set.univ (k ⟨⟩) Q)
          -∗ wp frame (wpE (defs₀ (F := F)) 𝒱₀ (c.tc : Thread nD τ) none) Set.univ (k0_part16 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v4 v9 (k0_pay50 (colA (prt J c (ha c))) (colA (prt J (p1 c) (ha c)))) >>= k) Q) := by
  simp only [k0_part16_eq_skeleton, k0_part16_skel, semSignalWord, semWaitWord, Prog.lift, Prog.bind_op, Prog.bind_ret, Prog.pure_eq_ret]
  iintro ⟨#HR, HAA, HBB, HO, HC1, HD2, HS2, HV2, HAt1, HAt7, HR1⟩ Hk
  iapply (ld_slice accM (oA (ha c)) (off21_eq c)) $$ HAA; iintro HAA
  iapply (st_slice accM (oA (ha c)) (off21_eq c)) $$ HAA; iintro HAA
  iapply (send_lend J K (c := c) 2 (dev5_eq c) semS2 semR2 (accA (ha c)) (slice_eq accM (off22_eq c)) a2M rfl fullShare [3, 4, 5] (A1 J c) (BI.Entails.refl _) (land2 J)) $$ [HAA HD2 HO HS2 HV2]
  · isplitr; · iexact HR
    isplitl [HAA]; · iexact HAA
    isplitl [HD2]; · iexact HD2
    isplitl [HO]; · iexact HO
    isplitl [HS2]; · iexact HS2
    iexact HV2
  iintro ⟨HC2, HO⟩
  iapply (wait_dma J K (c := c) 1 semS1 [3, 4, 5] (by decide)) $$ [HC1 HO HAt1]
  · isplitr; · iexact HR
    isplitl [HC1]; · iexact HC1
    isplitl [HO]; · iexact HO
    iexact HAt1
  iintro ⟨HO, HZ1, -⟩
  iapply (wait_dma J K (c := c) 7 semR1 [3, 4, 5] (by decide)) $$ [HR1 HO HAt7]
  · isplitr; · iexact HR
    isplitl [HR1]; · iexact HR1
    isplitl [HO]; · iexact HO
    iexact HAt7
  iintro ⟨HO, HZ7, Hp⟩
  ihave Hp' := (Entails.of_eq (show dmaPay J c 13 = iprop(own c b1M (colB (prt J (p2 c) (hb c))) ∗ own (p2 c) (accB (hb c)) (colB (prt J (p2 c) (hb c)))) from rfl)) $$ Hp
  icases Hp' with ⟨HL1, HD5⟩
  iapply (ld_slice accM (oB (hb c)) (off23_eq c)) $$ HBB; iintro HBB
  iapply (ld_full b1M (by decide)) $$ HL1; iintro HL1
  iapply (ld_slice accM (oB (hb c)) (off23_eq c)) $$ HBB; iintro HBB
  iapply (st_slice accM (oB (hb c)) (off23_eq c)) $$ HBB; iintro HBB
  iapply Hk $$ [HBB HO HC2 HZ1 HZ7 HL1 HD5]
  isplitl [HBB]; · iexact HBB
  isplitl [HO]; · iexact HO
  isplitl [HC2]; · iexact HC2
  isplitl [HZ1]; · iexact HZ1
  isplitl [HZ7]; · iexact HZ7
  isplitl [HL1]; · iexact HL1
  iexact HD5

/-- The first sum of the right half sent on, and the left half's received and added. -/
theorem part17_spec {Q : α → sProp 𝕄} {k : PUnit → Prog (TpuEff nD τ sig (Elt F) Λ₀ .tc) α} {v3 v4 v7 : BitVec 32} :
    (records J K ∗ own c (accB (hb c)) (B1 J c) ∗ ow c (owe c [3, 4, 5]) ∗ cred (tallyAt (dmaCell c (sS 2)) () N) ∗ (∃ w, own (p1 c) b2M w) ∗ dutyTok ER (dmaCell c (sS 3)) 0 false ∗ dutyTok ER (rcv 3 c) 0 false ∗ atPos ER (kcell (c, (2 : Fin 12).succ)) 0 ∅ 0 ∗ atPos ER (kcell (c, (8 : Fin 12).succ)) 0 ∅ 0 ∗ cred (tallyAt (dmaCell c (rS' 2)) () N) : sProp 𝕄)
      ⊢ iprop(((own c (accA (ha c)) (A2 J c) ∗ ow c (owe c [4, 5]) ∗ cred (tallyAt (dmaCell c (sS 3)) () N) ∗ semVal (kcell (c, (2 : Fin 12).succ)) 0 ∗ semVal (kcell (c, (8 : Fin 12).succ)) 0 ∗ own c a2M (A1 J (p2 c))) -∗ wp frame (wpE (defs₀ (F := F)) 𝒱₀ (c.tc : Thread nD τ) none) Set.univ (k ⟨⟩) Q)
          -∗ wp frame (wpE (defs₀ (F := F)) 𝒱₀ (c.tc : Thread nD τ) none) Set.univ (k0_part17 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v3 v4 v7 >>= k) Q) := by
  simp only [k0_part17_eq_skeleton, k0_part17_skel, semSignalWord, semWaitWord, Prog.lift, Prog.bind_op, Prog.bind_ret, Prog.pure_eq_ret]
  iintro ⟨#HR, HBB, HO, HC2, HD3, HS3, HV3, HAt2, HAt8, HR2⟩ Hk
  iapply (send_lend J K (c := c) 3 (dev6_eq c) semS3 semR3 (accB (hb c)) (slice_eq accM (off24_eq c)) b2M rfl fullShare [4, 5] (B1 J c) (BI.Entails.refl _) (land3 J)) $$ [HBB HD3 HO HS3 HV3]
  · isplitr; · iexact HR
    isplitl [HBB]; · iexact HBB
    isplitl [HD3]; · iexact HD3
    isplitl [HO]; · iexact HO
    isplitl [HS3]; · iexact HS3
    iexact HV3
  iintro ⟨HC3, HO⟩
  iapply (wait_dma J K (c := c) 2 semS2 [4, 5] (by decide)) $$ [HC2 HO HAt2]
  · isplitr; · iexact HR
    isplitl [HC2]; · iexact HC2
    isplitl [HO]; · iexact HO
    iexact HAt2
  iintro ⟨HO, HZ2, Hp⟩
  ihave HAA := (Entails.of_eq (show dmaPay J c 8 = own c (accA (ha c)) (A1 J c) from rfl)) $$ Hp
  iapply (wait_dma J K (c := c) 8 semR2 [4, 5] (by decide)) $$ [HR2 HO HAt8]
  · isplitr; · iexact HR
    isplitl [HR2]; · iexact HR2
    isplitl [HO]; · iexact HO
    iexact HAt8
  iintro ⟨HO, HZ8, Hp⟩
  ihave HL2 := (Entails.of_eq (show dmaPay J c 14 = own c a2M (A1 J (p2 c)) from rfl)) $$ Hp
  iapply (ld_slice accM (oA (ha c)) (off21_eq c)) $$ HAA; iintro HAA
  iapply (ld_full a2M (by decide)) $$ HL2; iintro HL2
  iapply (ld_slice accM (oA (ha c)) (off21_eq c)) $$ HAA; iintro HAA
  iapply (st_slice accM (oA (ha c)) (off21_eq c)) $$ HAA; iintro HAA
  iapply Hk $$ [HAA HO HC3 HZ2 HZ8 HL2]
  isplitl [HAA]; · iexact HAA
  isplitl [HO]; · iexact HO
  isplitl [HC3]; · iexact HC3
  isplitl [HZ2]; · iexact HZ2
  isplitl [HZ8]; · iexact HZ8
  iexact HL2

/-- The left half's sum sent back and stored, and the right half's sum made. -/
theorem part18_spec {Q : α → sProp 𝕄} {k : PUnit → Prog (TpuEff nD τ sig (Elt F) Λ₀ .tc) α} {v3 v7 v9 : BitVec 32} :
    (records J K ∗ own c (accA (ha c)) (A2 J c) ∗ ow c (owe c [4, 5]) ∗ cred (tallyAt (dmaCell c (sS 3)) () N) ∗ own (p1 c) (accA (ha c)) (colA (prt J (p1 c) (ha c))) ∗ dutyTok ER (dmaCell c (sS 4)) 0 false ∗ dutyTok ER (rcv 4 c) 0 false ∗ atPos ER (kcell (c, (3 : Fin 12).succ)) 0 ∅ 0 ∗ atPos ER (kcell (c, (9 : Fin 12).succ)) 0 ∅ 0 ∗ cred (tallyAt (dmaCell c (rS' 3)) () N) ∗ (∃ w, own c (outA (ha c)) w) : sProp 𝕄)
      ⊢ iprop(((owns (c.tc : Thread nD τ) (accA (ha c)) fullShare.left (A2 J c) ∗ own c (accB (hb c)) (B2 J c) ∗ ow c (owe c [5]) ∗ cred (tallyAt (dmaCell c (sS 4)) () N) ∗ semVal (kcell (c, (3 : Fin 12).succ)) 0 ∗ semVal (kcell (c, (9 : Fin 12).succ)) 0 ∗ own c b2M (B1 J (p1 c)) ∗ own c (outA (ha c)) (k0_pay54 (A2 J c))) -∗ wp frame (wpE (defs₀ (F := F)) 𝒱₀ (c.tc : Thread nD τ) none) Set.univ (k ⟨⟩) Q)
          -∗ wp frame (wpE (defs₀ (F := F)) 𝒱₀ (c.tc : Thread nD τ) none) Set.univ (k0_part18 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v3 v7 v9 >>= k) Q) := by
  simp only [k0_part18_eq_skeleton, k0_part18_skel, semSignalWord, semWaitWord, Prog.lift, Prog.bind_op, Prog.bind_ret, Prog.pure_eq_ret]
  iintro ⟨#HR, HAA, HO, HC3, HD4, HS4, HV4, HAt3, HAt9, HR3, HY⟩ Hk
  ihave Hh := (owns_halves (c.tc : Thread nD τ) (accA (ha c)) fullShare (A2 J c)).1 $$ HAA
  icases Hh with ⟨HAL, HAR⟩
  iapply (send_lend J K (c := c) 4 (dev7_eq c) semS4 semR4 (accA (ha c)) (slice_eq accM (off22_eq c)) (accA (ha c)) (slice_eq accM (off22_eq c)) fullShare.right [5] (A2 J c) (BI.Entails.refl _) (land4 J)) $$ [HAR HD4 HO HS4 HV4]
  · isplitr; · iexact HR
    isplitl [HAR]; · iexact HAR
    isplitl [HD4]; · iexists _; iexact HD4
    isplitl [HO]; · iexact HO
    isplitl [HS4]; · iexact HS4
    iexact HV4
  iintro ⟨HC4, HO⟩
  iapply (ld_slice accM (oA (ha c)) (off21_eq c)) $$ HAL; iintro HAL
  icases HY with ⟨%wy, HY⟩
  iapply (ld_slice outM (oA (ha c)) (off21_eq c)) $$ HY; iintro HY
  iapply (st_slice outM (oA (ha c)) (off21_eq c)) $$ HY; iintro HY
  iapply (wait_dma J K (c := c) 3 semS3 [5] (by decide)) $$ [HC3 HO HAt3]
  · isplitr; · iexact HR
    isplitl [HC3]; · iexact HC3
    isplitl [HO]; · iexact HO
    iexact HAt3
  iintro ⟨HO, HZ3, Hp⟩
  ihave HBB := (Entails.of_eq (show dmaPay J c 9 = own c (accB (hb c)) (B1 J c) from rfl)) $$ Hp
  iapply (wait_dma J K (c := c) 9 semR3 [5] (by decide)) $$ [HR3 HO HAt9]
  · isplitr; · iexact HR
    isplitl [HR3]; · iexact HR3
    isplitl [HO]; · iexact HO
    iexact HAt9
  iintro ⟨HO, HZ9, Hp⟩
  ihave HL3 := (Entails.of_eq (show dmaPay J c 15 = own c b2M (B1 J (p1 c)) from rfl)) $$ Hp
  iapply (ld_slice accM (oB (hb c)) (off23_eq c)) $$ HBB; iintro HBB
  iapply (ld_full b2M (by decide)) $$ HL3; iintro HL3
  iapply (ld_slice accM (oB (hb c)) (off23_eq c)) $$ HBB; iintro HBB
  iapply (st_slice accM (oB (hb c)) (off23_eq c)) $$ HBB; iintro HBB
  iapply Hk $$ [HAL HBB HO HC4 HZ3 HZ9 HL3 HY]
  isplitl [HAL]; · iexact HAL
  isplitl [HBB]; · iexact HBB
  isplitl [HO]; · iexact HO
  isplitl [HC4]; · iexact HC4
  isplitl [HZ3]; · iexact HZ3
  isplitl [HZ9]; · iexact HZ9
  isplitl [HL3]; · iexact HL3
  iexact HY

/-- The right half's sum sent back and stored, and the other batch's left half received. -/
theorem part19_spec {Q : α → sProp 𝕄} {k : (Σ' (v691 : BitVec 32), Vec F S1x128x256 .bf16) → Prog (TpuEff nD τ sig (Elt F) Λ₀ .tc) α} {v3 v4 v7 v9 : BitVec 32} :
    (records J K ∗ owns (c.tc : Thread nD τ) (accA (ha c)) fullShare.left (A2 J c) ∗ own c (accB (hb c)) (B2 J c) ∗ ow c (owe c [5]) ∗ cred (tallyAt (dmaCell c (sS 4)) () N) ∗ own (p2 c) (accB (hb c)) (colB (prt J (p2 c) (hb c))) ∗ dutyTok ER (dmaCell c (sS 5)) 0 false ∗ dutyTok ER (rcv 5 c) 0 false ∗ atPos ER (kcell (c, (4 : Fin 12).succ)) 0 ∅ 0 ∗ atPos ER (kcell (c, (10 : Fin 12).succ)) 0 ∅ 0 ∗ cred (tallyAt (dmaCell c (rS' 4)) () N) ∗ (∃ w, own c (outB (hb c)) w) : sProp 𝕄)
      ⊢ iprop(((own c (accA (ha c)) (A2 J c) ∗ own c (accA (nb (ha c))) (A2 J (p1 c)) ∗ owns (c.tc : Thread nD τ) (accB (hb c)) fullShare.left (B2 J c) ∗ ow c (owe c []) ∗ cred (tallyAt (dmaCell c (sS 5)) () N) ∗ semVal (kcell (c, (4 : Fin 12).succ)) 0 ∗ semVal (kcell (c, (10 : Fin 12).succ)) 0 ∗ own c (outB (hb c)) (k0_pay56 (B2 J c))) -∗ wp frame (wpE (defs₀ (F := F)) 𝒱₀ (c.tc : Thread nD τ) none) Set.univ (k ⟨Scalar.subi 1#32 v7, A2 J (p1 c)⟩) Q)
          -∗ wp frame (wpE (defs₀ (F := F)) 𝒱₀ (c.tc : Thread nD τ) none) Set.univ (k0_part19 xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7 c v3 v4 v7 v9 >>= k) Q) := by
  simp only [k0_part19_eq_skeleton, k0_part19_skel, semSignalWord, semWaitWord, Prog.lift, Prog.bind_op, Prog.bind_ret, Prog.pure_eq_ret]
  iintro ⟨#HR, HAL, HBB, HO, HC4, HD5, HS5, HV5, HAt4, HAt10, HR4, HY⟩ Hk
  ihave Hh := (owns_halves (c.tc : Thread nD τ) (accB (hb c)) fullShare (B2 J c)).1 $$ HBB
  icases Hh with ⟨HBL, HBR⟩
  iapply (send_lend J K (c := c) 5 (dev8_eq c) semS5 semR5 (accB (hb c)) (slice_eq accM (off24_eq c)) (accB (hb c)) (slice_eq accM (off24_eq c)) fullShare.right [] (B2 J c) (BI.Entails.refl _) (land5 J)) $$ [HBR HD5 HO HS5 HV5]
  · isplitr; · iexact HR
    isplitl [HBR]; · iexact HBR
    isplitl [HD5]; · iexists _; iexact HD5
    isplitl [HO]; · iexact HO
    isplitl [HS5]; · iexact HS5
    iexact HV5
  iintro ⟨HC5, HO⟩
  iapply (ld_slice accM (oB (hb c)) (off23_eq c)) $$ HBL; iintro HBL
  icases HY with ⟨%wy, HY⟩
  iapply (ld_slice outM (oB (hb c)) (off23_eq c)) $$ HY; iintro HY
  iapply (st_slice outM (oB (hb c)) (off23_eq c)) $$ HY; iintro HY
  iapply (wait_dma J K (c := c) 4 semS4 [] (by decide)) $$ [HC4 HO HAt4]
  · isplitr; · iexact HR
    isplitl [HC4]; · iexact HC4
    isplitl [HO]; · iexact HO
    iexact HAt4
  iintro ⟨HO, HZ4, Hp⟩
  ihave Hp := (Entails.of_eq (show dmaPay J c 10 = owns (c.tc : Thread nD τ) (accA (ha c)) fullShare.right (A2 J c) from rfl)) $$ Hp
  ihave HAA : own c (accA (ha c)) (A2 J c) $$ [HAL Hp]
  · iapply (owns_halves (c.tc : Thread nD τ) (accA (ha c)) fullShare (A2 J c)).2
    isplitl [HAL]; · iexact HAL
    iexact Hp
  iapply (wait_dma J K (c := c) 10 semR4 [] (by decide)) $$ [HR4 HO HAt10]
  · isplitr; · iexact HR
    isplitl [HR4]; · iexact HR4
    isplitl [HO]; · iexact HO
    iexact HAt10
  iintro ⟨HO, HZ10, Hp⟩
  ihave HAN := (Entails.of_eq (show dmaPay J c 16 = own c (accA (nb (ha c))) (A2 J (p1 c)) from rfl)) $$ Hp
  iapply (ld_slice accM (oA (nb (ha c))) (off25_eq c)) $$ HAN; iintro HAN
  iapply Hk $$ [HAA HAN HBL HO HC5 HZ4 HZ10 HY]
  isplitl [HAA]; · iexact HAA
  isplitl [HAN]; · iexact HAN
  isplitl [HBL]; · iexact HBL
  isplitl [HO]; · iexact HO
  isplitl [HC5]; · iexact HC5
  isplitl [HZ4]; · iexact HZ4
  isplitl [HZ10]; · iexact HZ10
  iexact HY

/-- What a device starts the body with besides its buffers: its places, the duties it pays, and its credit. -/
def places (c : Dev nD) : sProp 𝕄 :=
  iprop(atPos ER (barCell c) 0 ∅ 0 ∗ atPos ER (kcell (c, (0 : Fin 12).succ)) 0 ∅ 0 ∗ atPos ER (kcell (c, (1 : Fin 12).succ)) 0 ∅ 0 ∗ atPos ER (kcell (c, (2 : Fin 12).succ)) 0 ∅ 0 ∗ atPos ER (kcell (c, (3 : Fin 12).succ)) 0 ∅ 0 ∗ atPos ER (kcell (c, (4 : Fin 12).succ)) 0 ∅ 0 ∗ atPos ER (kcell (c, (5 : Fin 12).succ)) 0 ∅ 0 ∗ atPos ER (kcell (c, (6 : Fin 12).succ)) 0 ∅ 0 ∗ atPos ER (kcell (c, (7 : Fin 12).succ)) 0 ∅ 0 ∗ atPos ER (kcell (c, (8 : Fin 12).succ)) 0 ∅ 0 ∗ atPos ER (kcell (c, (9 : Fin 12).succ)) 0 ∅ 0 ∗ atPos ER (kcell (c, (10 : Fin 12).succ)) 0 ∅ 0 ∗ atPos ER (kcell (c, (11 : Fin 12).succ)) 0 ∅ 0)
def tickets (c : Dev nD) : sProp 𝕄 :=
  iprop(dutyTok ER (barCell (p1 c)) 0 false ∗ dutyTok ER (barCell (p2 c)) 0 true ∗ dutyTok ER (dmaCell c (sS 0)) 0 false ∗ dutyTok ER (dmaCell c (sS 1)) 0 false ∗ dutyTok ER (dmaCell c (sS 2)) 0 false ∗ dutyTok ER (dmaCell c (sS 3)) 0 false ∗ dutyTok ER (dmaCell c (sS 4)) 0 false ∗ dutyTok ER (dmaCell c (sS 5)) 0 false ∗ dutyTok ER (rcv 0 c) 0 false ∗ dutyTok ER (rcv 1 c) 0 false ∗ dutyTok ER (rcv 2 c) 0 false ∗ dutyTok ER (rcv 3 c) 0 false ∗ dutyTok ER (rcv 4 c) 0 false ∗ dutyTok ER (rcv 5 c) 0 false)
def credits (c : Dev nD) : sProp 𝕄 :=
  iprop(cred (tallyAt (barCell c) () 2) ∗ cred (tallyAt (dmaCell c (rS' 0)) () N) ∗ cred (tallyAt (dmaCell c (rS' 1)) () N) ∗ cred (tallyAt (dmaCell c (rS' 2)) () N) ∗ cred (tallyAt (dmaCell c (rS' 3)) () N) ∗ cred (tallyAt (dmaCell c (rS' 4)) () N) ∗ cred (tallyAt (dmaCell c (rS' 5)) () N))
/-- The semaphores at zero, which the body ends with. -/
def zeros (c : Dev nD) : sProp 𝕄 :=
  iprop(semVal (barCell c) 0 ∗ semVal (kcell (c, (0 : Fin 12).succ)) 0 ∗ semVal (kcell (c, (1 : Fin 12).succ)) 0 ∗ semVal (kcell (c, (2 : Fin 12).succ)) 0 ∗ semVal (kcell (c, (3 : Fin 12).succ)) 0 ∗ semVal (kcell (c, (4 : Fin 12).succ)) 0 ∗ semVal (kcell (c, (5 : Fin 12).succ)) 0 ∗ semVal (kcell (c, (6 : Fin 12).succ)) 0 ∗ semVal (kcell (c, (7 : Fin 12).succ)) 0 ∗ semVal (kcell (c, (8 : Fin 12).succ)) 0 ∗ semVal (kcell (c, (9 : Fin 12).succ)) 0 ∗ semVal (kcell (c, (10 : Fin 12).succ)) 0 ∗ semVal (kcell (c, (11 : Fin 12).succ)) 0)
/-- The scratch buffers, whatever they hold. -/
def scratch (c : Dev nD) : sProp 𝕄 :=
  iprop((∃ w, own c accM w) ∗ (∃ w, own c attnM w) ∗ (∃ w, own c a1M w) ∗ (∃ w, own c a2M w) ∗ (∃ w, own c b1M w) ∗ ∃ w, own c b2M w)
/-- The argument blocks. -/
def argsOf (c : Dev nD) : sProp 𝕄 :=
  iprop(own c xM (J c).x ∗ own c wqM (J c).wq ∗ own c woM (J c).wo ∗ own c kM (J c).k ∗ own c vM (J c).v)

set_option maxHeartbeats 1600000 in
/-- The whole body on device `c`. -/
theorem body_spec {Q : PUnit → sProp 𝕄} :
    (records J K ∗ places c ∗ tickets c ∗ credits c ∗ ow c (O₀ c) ∗ scratch c ∗ argsOf J c ∗ ∃ w, own c outM w)
      ⊢ iprop(((zeros c ∗ ow c 0 ∗ scratch c ∗ argsOf J c ∗ own c outM (outC J c)) -∗ Q ⟨⟩)
          -∗ wp frame (wpE (defs₀ (F := F)) 𝒱₀ (c.tc : Thread nD τ) none) Set.univ (cc0_body xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7) Q) := by
  simp only [cc0_body_eq_skeleton, cc0_body_skel, k0_part20_eq_skeleton, k0_part20_skel, bind_assoc]
  unfold places tickets credits scratch argsOf zeros
  iintro ⟨#HR, ⟨HAtb, HAt0, HAt1, HAt2, HAt3, HAt4, HAt5, HAt6, HAt7, HAt8, HAt9, HAt10, HAt11⟩, ⟨HT1, HT2, HS0, HS1, HS2, HS3, HS4, HS5, HV0, HV1, HV2, HV3, HV4, HV5⟩, ⟨HCb, HR0, HR1, HR2, HR3, HR4, HR5⟩, HO, ⟨⟨%wacc, Hacc⟩, ⟨%wat, Hat⟩, Ha1, Ha2, Hb1, Hb2⟩, ⟨HX, HWq, HWo, HK, HV⟩, ⟨%wo, Hout⟩⟩ Hk
  ihave Hacc' := (acc_rows wacc (nb (ha c))) $$ Hacc
  rw [nb_nb]
  icases Hacc' with ⟨⟨%wn, HRn⟩, ⟨%wh, HRh⟩⟩
  ihave Hat' := (attn_own wat) $$ Hat
  icases Hat' with ⟨%w0, %w1, %w2, %w3, %w4, %w5, %w6, %w7, H0, H1, H2, H3, H4, H5, H6, H7⟩
  ihave Ho' := (out_cut wo (ha c) (hb c)) $$ Hout
  icases Ho' with ⟨HYa, HYan, HYb, HYbn⟩
  iapply (part1_spec (c := c) (J c)) $$ [HX HWq HWo HK HV]
  · isplitl [HX]; · iexact HX
    isplitl [HWq]; · iexact HWq
    isplitl [HWo]; · iexact HWo
    isplitl [HK]; · iexact HK
    iexact HV
  iintro %v3 %v4 %v7 %v9 %v16 ⟨HX, HWq, HWo, HK, HV⟩
  iapply (part2_spec (c := c) (J c)) $$ [HK HV H0]
  · isplitl [HK]; · iexact HK
    isplitl [HV]; · iexact HV
    iexact H0
  iintro ⟨HK, HV, H0⟩
  iapply (part3_spec (c := c) (J c)) $$ [HK HV H1 H2]
  · isplitl [HK]; · iexact HK
    isplitl [HV]; · iexact HV
    isplitl [H1]; · iexact H1
    iexact H2
  iintro ⟨HK, HV, H1, H2⟩
  iapply (part4_spec (c := c) (J c)) $$ [HK HV H3]
  · isplitl [HK]; · iexact HK
    isplitl [HV]; · iexact HV
    iexact H3
  iintro ⟨HK, HV, H3⟩
  iapply (part5_spec (c := c) (J c)) $$ [HK HV H4]
  · isplitl [HK]; · iexact HK
    isplitl [HV]; · iexact HV
    iexact H4
  iintro ⟨HK, HV, H4⟩
  iapply (part6_spec (c := c) (J c)) $$ [HK HV H5 H6]
  · isplitl [HK]; · iexact HK
    isplitl [HV]; · iexact HV
    isplitl [H5]; · iexact H5
    iexact H6
  iintro ⟨HK, HV, H5, H6⟩
  iapply (part7_spec (c := c) (J c)) $$ [HK HV H0 H1 H2 H3 H4 H5 H6 H7]
  · isplitl [HK]; · iexact HK
    isplitl [HV]; · iexact HV
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HK, HV, Hat⟩
  iapply (part8_spec J K (c := c)) $$ [HX HK HRn HO HT1 HT2 Ha1 Hb2 Hb1 Ha2 HCb HAtb HS0 HV0]
  · isplitr; · iexact HR
    isplitl [HX]; · iexact HX
    isplitl [HK]; · iexact HK
    isplitl [HRn]; · iexact HRn
    isplitl [HO]; · iexact HO
    isplitl [HT1]; · iexact HT1
    isplitl [HT2]; · iexact HT2
    isplitl [Ha1 Hb2]; · (isplitl [Ha1]; · iexact Ha1); iexact Hb2
    isplitl [Hb1 Ha2]; · (isplitl [Hb1]; · iexact Hb1); iexact Ha2
    isplitl [HCb]; · iexact HCb
    isplitl [HAtb]; · iexact HAtb
    isplitl [HS0]; · iexact HS0
    iexact HV0
  iintro ⟨HX, HK, HAB, HO, HC0, HZb, HD1, HD2, HD3⟩
  ihave Hat' := (attn_own _) $$ Hat
  icases Hat' with ⟨%u0, %u1, %u2, %u3, %u4, %u5, %u6, %u7, H0, H1, H2, H3, H4, H5, H6, H7⟩
  iapply (part9_spec (c := c) (J c)) $$ [HK HV H0]
  · isplitl [HK]; · iexact HK
    isplitl [HV]; · iexact HV
    iexact H0
  iintro ⟨HK, HV, H0⟩
  iapply (part10_spec (c := c) (J c)) $$ [HK HV H1]
  · isplitl [HK]; · iexact HK
    isplitl [HV]; · iexact HV
    iexact H1
  iintro ⟨HK, HV, H1⟩
  iapply (part11_spec (c := c) (J c)) $$ [HK HV H2 H3]
  · isplitl [HK]; · iexact HK
    isplitl [HV]; · iexact HV
    isplitl [H2]; · iexact H2
    iexact H3
  iintro ⟨HK, HV, H2, H3⟩
  iapply (part12_spec (c := c) (J c)) $$ [HK HV H4]
  · isplitl [HK]; · iexact HK
    isplitl [HV]; · iexact HV
    iexact H4
  iintro ⟨HK, HV, H4⟩
  iapply (part13_spec (c := c) (J c)) $$ [HK HV H5]
  · isplitl [HK]; · iexact HK
    isplitl [HV]; · iexact HV
    iexact H5
  iintro ⟨HK, HV, H5⟩
  iapply (part14_spec (c := c) (J c)) $$ [HK HV H0 H1 H2 H3 H4 H5 H6 H7]
  · isplitl [HK]; · iexact HK
    isplitl [HV]; · iexact HV
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HK, HV, Hat⟩
  iapply (part15_spec J K (c := c)) $$ [HRh HAB HO HC0 HD1 HS1 HV1 HAt0 HAt6 HR0]
  · isplitr; · iexact HR
    isplitl [HRh]; · iexact HRh
    isplitl [HAB]; · iexact HAB
    isplitl [HO]; · iexact HO
    isplitl [HC0]; · iexact HC0
    isplitl [HD1]; · iexact HD1
    isplitl [HS1]; · iexact HS1
    isplitl [HV1]; · iexact HV1
    isplitl [HAt0]; · iexact HAt0
    isplitl [HAt6]; · iexact HAt6
    iexact HR0
  iintro ⟨HAA, HBB, HO, HC1, HZ0, HZ6, HL0, HD4⟩
  iapply (part16_spec J K (c := c)) $$ [HAA HBB HO HC1 HD2 HS2 HV2 HAt1 HAt7 HR1]
  · isplitr; · iexact HR
    isplitl [HAA]; · iexact HAA
    isplitl [HBB]; · iexact HBB
    isplitl [HO]; · iexact HO
    isplitl [HC1]; · iexact HC1
    isplitl [HD2]; · iexact HD2
    isplitl [HS2]; · iexact HS2
    isplitl [HV2]; · iexact HV2
    isplitl [HAt1]; · iexact HAt1
    isplitl [HAt7]; · iexact HAt7
    iexact HR1
  iintro ⟨HBB, HO, HC2, HZ1, HZ7, HL1, HD5⟩
  iapply (part17_spec J K (c := c)) $$ [HBB HO HC2 HD3 HS3 HV3 HAt2 HAt8 HR2]
  · isplitr; · iexact HR
    isplitl [HBB]; · iexact HBB
    isplitl [HO]; · iexact HO
    isplitl [HC2]; · iexact HC2
    isplitl [HD3]; · iexact HD3
    isplitl [HS3]; · iexact HS3
    isplitl [HV3]; · iexact HV3
    isplitl [HAt2]; · iexact HAt2
    isplitl [HAt8]; · iexact HAt8
    iexact HR2
  iintro ⟨HAA, HO, HC3, HZ2, HZ8, HL2⟩
  iapply (part18_spec J K (c := c)) $$ [HAA HO HC3 HD4 HS4 HV4 HAt3 HAt9 HR3 HYa]
  · isplitr; · iexact HR
    isplitl [HAA]; · iexact HAA
    isplitl [HO]; · iexact HO
    isplitl [HC3]; · iexact HC3
    isplitl [HD4]; · iexact HD4
    isplitl [HS4]; · iexact HS4
    isplitl [HV4]; · iexact HV4
    isplitl [HAt3]; · iexact HAt3
    isplitl [HAt9]; · iexact HAt9
    isplitl [HR3]; · iexact HR3
    iexact HYa
  iintro ⟨HAL, HBB, HO, HC4, HZ3, HZ9, HL3, HYa⟩
  iapply (part19_spec J K (c := c)) $$ [HAL HBB HO HC4 HD5 HS5 HV5 HAt4 HAt10 HR4 HYb]
  · isplitr; · iexact HR
    isplitl [HAL]; · iexact HAL
    isplitl [HBB]; · iexact HBB
    isplitl [HO]; · iexact HO
    isplitl [HC4]; · iexact HC4
    isplitl [HD5]; · iexact HD5
    isplitl [HS5]; · iexact HS5
    isplitl [HV5]; · iexact HV5
    isplitl [HAt4]; · iexact HAt4
    isplitl [HAt10]; · iexact HAt10
    isplitl [HR4]; · iexact HR4
    iexact HYb
  iintro ⟨HAA, HAN, HBL, HO, HC5, HZ4, HZ10, HYb⟩
  simp only [Prog.lift, Prog.bind_op, Prog.bind_ret, Prog.pure_eq_ret]
  icases HYan with ⟨%ya, HYan⟩
  iapply (ld_slice outM (oA (nb (ha c))) (off25_eq c)) $$ HYan; iintro HYan
  iapply (st_slice outM (oA (nb (ha c))) (off25_eq c)) $$ HYan; iintro HYan
  iapply (wait_dma J K (c := c) 5 semS5 [] (by decide)) $$ [HC5 HO HAt5]
  · isplitr; · iexact HR
    isplitl [HC5]; · iexact HC5
    isplitl [HO]; · iexact HO
    iexact HAt5
  iintro ⟨HO, HZ5, Hp⟩
  ihave Hp := (Entails.of_eq (show dmaPay J c 11 = owns (c.tc : Thread nD τ) (accB (hb c)) fullShare.right (B2 J c) from rfl)) $$ Hp
  ihave HBB : own c (accB (hb c)) (B2 J c) $$ [HBL Hp]
  · iapply (owns_halves (c.tc : Thread nD τ) (accB (hb c)) fullShare (B2 J c)).2
    isplitl [HBL]; · iexact HBL
    iexact Hp
  iapply (wait_dma J K (c := c) 11 semR5 [] (by decide)) $$ [HR5 HO HAt11]
  · isplitr; · iexact HR
    isplitl [HR5]; · iexact HR5
    isplitl [HO]; · iexact HO
    iexact HAt11
  iintro ⟨HO, HZ11, Hp⟩
  ihave HBN := (Entails.of_eq (show dmaPay J c 17 = own c (accB (nb (hb c))) (B2 J (p2 c)) from rfl)) $$ Hp
  iapply (ld_slice accM (oB (nb (hb c))) (off26_eq c)) $$ HBN; iintro HBN
  icases HYbn with ⟨%yb, HYbn⟩
  iapply (ld_slice outM (oB (nb (hb c))) (off26_eq c)) $$ HYbn; iintro HYbn
  iapply (st_slice outM (oB (nb (hb c))) (off26_eq c)) $$ HYbn; iintro HYbn
  rw [wp_ret]; imodintro
  iapply Hk
  isplitl [HZb HZ0 HZ1 HZ2 HZ3 HZ4 HZ5 HZ6 HZ7 HZ8 HZ9 HZ10 HZ11]
  · isplitl [HZb]; · iexact HZb
    isplitl [HZ0]; · iexact HZ0
    isplitl [HZ1]; · iexact HZ1
    isplitl [HZ2]; · iexact HZ2
    isplitl [HZ3]; · iexact HZ3
    isplitl [HZ4]; · iexact HZ4
    isplitl [HZ5]; · iexact HZ5
    isplitl [HZ6]; · iexact HZ6
    isplitl [HZ7]; · iexact HZ7
    isplitl [HZ8]; · iexact HZ8
    isplitl [HZ9]; · iexact HZ9
    isplitl [HZ10]; · iexact HZ10
    iexact HZ11
  isplitl [HO]; · iexact HO
  isplitl [HAA HAN HBB HBN Hat HL0 HL1 HL2 HL3]
  · isplitl [HAA HAN HBB HBN]
    · iapply (acc_join (ha c) (hb c))
      isplitl [HAA]; · iexact HAA
      isplitl [HAN]; · iexact HAN
      isplitl [HBB]; · iexact HBB
      iexact HBN
    isplitl [Hat]; · iexists _; iexact Hat
    isplitl [HL0]; · iexists _; iexact HL0
    isplitl [HL2]; · iexists _; iexact HL2
    isplitl [HL1]; · iexists _; iexact HL1
    iexists _; iexact HL3
  isplitl [HX HWq HWo HK HV]
  · isplitl [HX]; · iexact HX
    isplitl [HWq]; · iexact HWq
    isplitl [HWo]; · iexact HWo
    isplitl [HK]; · iexact HK
    iexact HV
  iapply (out_join J)
  isplitl [HYa]; · iexact HYa
  isplitl [HYan]; · iexact HYan
  isplitl [HYb]; · iexact HYb
  iexact HYbn

end Cert.KProof
end
-- ==== Proof.Launch.lean ====
/-
The launch: what the four devices are dealt, and the run of the program.
-/
module

public import proofs.«01_k».proof.Proof.Body
public import proofs.«01_k».proof.Proof.Gen.KernelIdeal.Frame
public import Idealize.ShloMosaic.Lib.Pipeline.CollectiveSegs

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch state. -/
abbrev st₀ : MemSt nD τ sig (Elt F) := ⟨m, fun _ => 0, ρ⟩

/-- Each device's argument blocks, as staged. -/
def ins (c : Dev nD) : Ins F where
  x := (win0_0.blk (0 : Fin 1)).view.read (Elt F) (m ((c.tc : Thread nD τ).loc main_arg0))
  wq := (win0_1.blk (0 : Fin 1)).view.read (Elt F) (m ((c.tc : Thread nD τ).loc main_arg1))
  wo := (win0_2.blk (0 : Fin 1)).view.read (Elt F) (m ((c.tc : Thread nD τ).loc main_arg4))
  k := (win0_3.blk (0 : Fin 1)).view.read (Elt F) (m ((c.tc : Thread nD τ).loc main_arg2))
  v := (win0_4.blk (0 : Fin 1)).view.read (Elt F) (m ((c.tc : Thread nD τ).loc main_arg3))

/-- What a device's body starts from, and what it ends with. -/
def start (c : Dev nD) : sProp 𝕄 := iprop((∃ K, records (ins m) K ∗ places c ∗ tickets c) ∗ credits c)
def Φ₀ (c : Dev nD) : sProp 𝕄 := iprop(start m c ∗ scratch c)
def Φ₁ (c : Dev nD) : sProp 𝕄 := iprop(scratch c ∗ zeros c)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => (ins m c).x
    | ⟨1, _⟩ => (ins m c).wq
    | ⟨2, _⟩ => (ins m c).wo
    | ⟨3, _⟩ => (ins m c).k
    | ⟨4, _⟩ => (ins m c).v
    | ⟨5, _⟩ => outC (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body obligation -/

def bodyPre (c : Dev nD) : sProp 𝕄 :=
  iprop(Φ₀ m c ∗ (dats m ρ 0 c).owesAt () t0_0.castSucc
    ∗ (∃ d, own c xM ((dats m ρ 0 c).before (0 : Fin 6) t0_0 d))
    ∗ (∃ d, own c wqM ((dats m ρ 0 c).before (1 : Fin 6) t0_0 d))
    ∗ (∃ d, own c woM ((dats m ρ 0 c).before (2 : Fin 6) t0_0 d))
    ∗ (∃ d, own c kM ((dats m ρ 0 c).before (3 : Fin 6) t0_0 d))
    ∗ (∃ d, own c vM ((dats m ρ 0 c).before (4 : Fin 6) t0_0 d))
    ∗ (∃ d, own c outM ((dats m ρ 0 c).before (5 : Fin 6) t0_0 d)))

def bodyPost (c : Dev nD) : sProp 𝕄 :=
  iprop(Φ₁ c ∗ (dats m ρ 0 c).owesAt () t0_0.succ
    ∗ own c xM (ins m c).x ∗ own c wqM (ins m c).wq ∗ own c woM (ins m c).wo ∗ own c kM (ins m c).k ∗ own c vM (ins m c).v
    ∗ own c outM (outC (ins m) c))

theorem before_0 (c : Dev nD) (d) : (dats m ρ 0 c).before (0 : Fin 6) t0_0 d = (ins m c).x := by
  unfold Dat.before; rw [if_pos (fetch0_0 t0_0)]; rfl
theorem before_1 (c : Dev nD) (d) : (dats m ρ 0 c).before (1 : Fin 6) t0_0 d = (ins m c).wq := by
  unfold Dat.before; rw [if_pos (fetch0_1 t0_0)]; rfl
theorem before_2 (c : Dev nD) (d) : (dats m ρ 0 c).before (2 : Fin 6) t0_0 d = (ins m c).wo := by
  unfold Dat.before; rw [if_pos (fetch0_2 t0_0)]; rfl
theorem before_3 (c : Dev nD) (d) : (dats m ρ 0 c).before (3 : Fin 6) t0_0 d = (ins m c).k := by
  unfold Dat.before; rw [if_pos (fetch0_3 t0_0)]; rfl
theorem before_4 (c : Dev nD) (d) : (dats m ρ 0 c).before (4 : Fin 6) t0_0 d = (ins m c).v := by
  unfold Dat.before; rw [if_pos (fetch0_4 t0_0)]; rfl

set_option maxHeartbeats 800000 in
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ wp frame (wpE (defs₀ (F := F)) 𝒱₀ (c.tc : Thread nD τ) none) Set.univ
    (cc0_body xM (Memref.isWhole_whole _) wqM (Memref.isWhole_whole _) woM (Memref.isWhole_whole _) kM (Memref.isWhole_whole _) vM (Memref.isWhole_whole _) outM (Memref.isWhole_whole _) accM (Memref.isWhole_whole _) attnM (Memref.isWhole_whole _) a1M (Memref.isWhole_whole _) a2M (Memref.isWhole_whole _) b1M (Memref.isWhole_whole _) b2M (Memref.isWhole_whole _) cc0_scratch6 cc0_scratch7)
    (fun _ => bodyPost m ρ c)
  unfold bodyPre Φ₀ start Dat.owesAt Pipeline.owesWithin
  rw [show (dats m ρ 0 c).owed t0_0.castSucc = O₀ c from rfl]
  iintro ⟨⟨⟨⟨%K, HR, Hp, Ht⟩, Hc⟩, Hs⟩, ⟨%W, %hW, HO⟩, ⟨%d0, H0⟩, ⟨%d1, H1⟩, ⟨%d2, H2⟩, ⟨%d3, H3⟩, ⟨%d4, H4⟩, ⟨%d5, H5⟩⟩
  rw [before_0, before_1, before_2, before_3, before_4]
  iapply (body_spec (ins m) K) $$ [HR Hp Ht Hc Hs HO H0 H1 H2 H3 H4 H5]
  · isplitl [HR]; · iexact HR
    isplitl [Hp]; · iexact Hp
    isplitl [Ht]; · iexact Ht
    isplitl [Hc]; · iexact Hc
    isplitl [HO]; · unfold ow; iexists W; iexact HO
    isplitl [Hs]; · iexact Hs
    isplitl [H0 H1 H2 H3 H4]
    · unfold argsOf
      isplitl [H0]; · iexact H0
      isplitl [H1]; · iexact H1
      isplitl [H2]; · iexact H2
      isplitl [H3]; · iexact H3
      iexact H4
    iexists _; iexact H5
  unfold bodyPost Φ₁ Dat.owesAt Pipeline.owesWithin argsOf ow
  rw [show (dats m ρ 0 c).owed t0_0.succ = 0 from rfl]
  iintro ⟨Hz, ⟨%W', HO⟩, Hs, ⟨H0, H1, H2, H3, H4⟩, H5⟩
  isplitl [Hz Hs]
  · isplitl [Hs]; · iexact Hs
    iexact Hz
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

/-! ## What the launch deals -/

theorem ownSemFacts : Pipeline.OwnSemFacts cfg0.spec osem := by decide

theorem share_eq (c : Dev nD) (w : Fin cfg0.W) : (dats m ρ 0 c).share w = fullShare := by unfold Dat.share; split <;> rfl

theorem csem_inj : ∀ k k' : Fin 13, csem k = csem k' → k = k' := by decide
theorem kcell_injective : Function.Injective (kcell : Dev nD × Fin 13 → GSem nD τ sig) := by
  rintro ⟨c, k⟩ ⟨c', k'⟩ h
  exact Prod.ext (congrArg (fun g : GSem nD τ sig => g.1.1) h) (csem_inj k k' (congrArg Prod.snd h))
def allCells : Finset (GSem nD τ sig) := Finset.univ.map ⟨kcell, kcell_injective⟩

/-- The duties of a device's cells: the barrier's second, and the first of each of the thirteen. -/
def duty (j : Fin 14) : SemLoc sig × Bool := Fin.cases (.reg barS, true) (fun k => (csem k, false)) j
theorem duty_inj : ∀ j j' : Fin 14, duty j = duty j' → j = j' := by decide
abbrev tokOf (cj : Dev nD × Fin 14) : GSem nD τ sig × ℕ × Bool := (((cj.1 : Thread nD τ), (duty cj.2).1), 0, (duty cj.2).2)
theorem tokOf_injective : Function.Injective (tokOf : Dev nD × Fin 14 → GSem nD τ sig × ℕ × Bool) := by
  rintro ⟨c, j⟩ ⟨c', j'⟩ h
  exact Prod.ext (congrArg (fun x : GSem nD τ sig × ℕ × Bool => x.1.1.1) h)
    (duty_inj j j' (congrArg (fun x : GSem nD τ sig × ℕ × Bool => (x.1.2, x.2.2)) h))
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of a device's own cells. -/
def toks (c : Dev nD) : sProp 𝕄 :=
  iprop(dutyTok ER (barCell c) 0 true ∗ dutyTok ER (barCell c) 0 false ∗ dutyTok ER (dmaCell c (sS 0)) 0 false ∗ dutyTok ER (dmaCell c (sS 1)) 0 false ∗ dutyTok ER (dmaCell c (sS 2)) 0 false ∗ dutyTok ER (dmaCell c (sS 3)) 0 false ∗ dutyTok ER (dmaCell c (sS 4)) 0 false ∗ dutyTok ER (dmaCell c (sS 5)) 0 false ∗ dutyTok ER (dmaCell c (rS' 0)) 0 false ∗ dutyTok ER (dmaCell c (rS' 1)) 0 false ∗ dutyTok ER (dmaCell c (rS' 2)) 0 false ∗ dutyTok ER (dmaCell c (rS' 3)) 0 false ∗ dutyTok ER (dmaCell c (rS' 4)) 0 false ∗ dutyTok ER (dmaCell c (rS' 5)) 0 false)

/-- A device's share of the launch element. -/
def G (c : Dev nD) : sProp 𝕄 :=
  iprop((bigSep Finset.univ fun k : Fin 13 => roundState ER (sched (ins m)) (kcell (c, k)) 0)
    ∗ (bigSep Finset.univ fun k : Fin 13 => iprop(atPos ER (kcell (c, k)) 0 ∅ 0 ∗ reached ER (kcell (c, k)) 0)) ∗ toks c)

/-- The cells' invariants, and that each cell is at its round. -/
def core (K : Dev nD × Fin 13 → ℕ) : sProp 𝕄 :=
  iprop((bigSep Finset.univ fun ck : Dev nD × Fin 13 => cellInv ER (sched (ins m)) (K ck) (kcell ck))
    ∗ bigSep Finset.univ fun ck : Dev nD × Fin 13 => reached ER (kcell ck) 0)
instance core_persistent (K : Dev nD × Fin 13 → ℕ) : BI.Persistent (core m K) := by unfold core; infer_instance

/-- What the exchange of shares makes of it. -/
def G' (c : Dev nD) : sProp 𝕄 := iprop(∃ K, core m K ∗ places c ∗ tickets c)

theorem bigSep_fin13 (Φ : Fin 13 → sProp 𝕄) : bigSep Finset.univ Φ = iprop(Φ 0 ∗ Φ (0 : Fin 12).succ ∗ Φ (1 : Fin 12).succ ∗ Φ (2 : Fin 12).succ ∗ Φ (3 : Fin 12).succ ∗ Φ (4 : Fin 12).succ ∗ Φ (5 : Fin 12).succ ∗ Φ (6 : Fin 12).succ ∗ Φ (7 : Fin 12).succ ∗ Φ (8 : Fin 12).succ ∗ Φ (9 : Fin 12).succ ∗ Φ (10 : Fin 12).succ ∗ Φ (11 : Fin 12).succ) :=
  bigSep_univ_eq_bigSepL [0, (0 : Fin 12).succ, (1 : Fin 12).succ, (2 : Fin 12).succ, (3 : Fin 12).succ, (4 : Fin 12).succ, (5 : Fin 12).succ, (6 : Fin 12).succ, (7 : Fin 12).succ, (8 : Fin 12).succ, (9 : Fin 12).succ, (10 : Fin 12).succ, (11 : Fin 12).succ] (by decide) (by decide) Φ
theorem bigSep_fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 13 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin14]; rfl
  iintro HX
  imod (Rounds.fund ER (sched (ins m)) allCells allToks) $$ HX with ⟨Hst, Hr, Hat, Htok⟩
  imodintro
  ihave Hst' := (Entails.of_eq (hX fun g => roundState ER (sched (ins m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (kcell (c, (0 : Fin 12).succ)) 0 ∗ semVal (kcell (c, (1 : Fin 12).succ)) 0 ∗ semVal (kcell (c, (2 : Fin 12).succ)) 0 ∗ semVal (kcell (c, (3 : Fin 12).succ)) 0 ∗ semVal (kcell (c, (4 : Fin 12).succ)) 0 ∗ semVal (kcell (c, (5 : Fin 12).succ)) 0 ∗ semVal (kcell (c, (6 : Fin 12).succ)) 0 ∗ semVal (kcell (c, (7 : Fin 12).succ)) 0 ∗ semVal (kcell (c, (8 : Fin 12).succ)) 0 ∗ semVal (kcell (c, (9 : Fin 12).succ)) 0 ∗ semVal (kcell (c, (10 : Fin 12).succ)) 0 ∗ semVal (kcell (c, (11 : Fin 12).succ)) 0) := by
  rw [Pipeline.ownSems0_eq_of_list c osem [0, 1, 2, 3, 4, 5, 6, 7, 8, 9, 10, 11] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_fin13]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (ins m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (sched (ins m)) (kcell (c, k)) 0)
      ⊢ (|={Set.univ}=> bigSep Finset.univ fun k => iprop(∃ κ : ℕ, cellInv ER (sched (ins m)) κ (kcell (c, k))) : sProp 𝕄) from by
        rw [← bigSep_sep']
        exact (bigSep_mono fun k _ => (Rounds.body_intro ER (sched (ins m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that pay with them -/

def p1E : Dev nD ≃ Dev nD := ⟨p1, p1, p1_p1, p1_p1⟩
def p2E : Dev nD ≃ Dev nD := ⟨p2, p2, p2_p2, p2_p2⟩
theorem peer_peer (j : Fin 6) (c : Dev nD) : peer j (peer j c) = c := by revert j c; decide
def peerE (j : Fin 6) : Dev nD ≃ Dev nD := ⟨peer j, peer j, peer_peer j, peer_peer j⟩

theorem toks_around : (bigSep Finset.univ fun c : Dev nD => (toks c : sProp 𝕄)) ⊢ bigSep Finset.univ fun c : Dev nD => tickets c := by
  have e1 := bigSep_univ_equiv p1E (fun c : Dev nD => (dutyTok ER (barCell c) 0 false : sProp 𝕄))
  have e2 := bigSep_univ_equiv p2E (fun c : Dev nD => (dutyTok ER (barCell c) 0 true : sProp 𝕄))
  have er (j : Fin 6) := bigSep_univ_equiv (peerE j) (fun c : Dev nD => (dutyTok ER (dmaCell c (rS' j)) 0 false : sProp 𝕄))
  unfold toks tickets
  simp only [bigSep_sep']
  iintro ⟨HT2, HT1, HS0, HS1, HS2, HS3, HS4, HS5, HR0, HR1, HR2, HR3, HR4, HR5⟩
  isplitl [HT1]; · iapply (Entails.of_eq e1); iexact HT1
  isplitl [HT2]; · iapply (Entails.of_eq e2); iexact HT2
  isplitl [HS0]; · iexact HS0
  isplitl [HS1]; · iexact HS1
  isplitl [HS2]; · iexact HS2
  isplitl [HS3]; · iexact HS3
  isplitl [HS4]; · iexact HS4
  isplitl [HS5]; · iexact HS5
  isplitl [HR0]; · iapply (Entails.of_eq (er 0)); iexact HR0
  isplitl [HR1]; · iapply (Entails.of_eq (er 1)); iexact HR1
  isplitl [HR2]; · iapply (Entails.of_eq (er 2)); iexact HR2
  isplitl [HR3]; · iapply (Entails.of_eq (er 3)); iexact HR3
  isplitl [HR4]; · iapply (Entails.of_eq (er 4)); iexact HR4
  iapply (Entails.of_eq (er 5)); iexact HR5

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched (ins m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 13 => iprop(∃ κ : ℕ, cellInv ER (sched (ins m)) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (sched (ins m)) κ (kcell ck) : sProp 𝕄))) $$ HI
  icases HK with ⟨%K, #HI⟩
  ihave Htk := (toks_around (F := F)) $$ Htok
  iapply (bigSep_with_persistent (R := core m K) (Φ := fun c => iprop(places c ∗ tickets c)) fun c _ => by
    unfold G'
    iintro ⟨H1, H2⟩
    iexists K
    isplitl [H1] <;> iassumption)
  isplitr
  · unfold core; isplitl; · iexact HI
    iexact HR
  · iapply ((Entails.of_eq (bigSep_sep' Finset.univ (fun c : Dev nD => bigSep Finset.univ fun k : Fin 13 => (atPos ER (kcell (c, k)) 0 ∅ 0 : sProp 𝕄)) tickets).symm).trans
      (bigSep_mono fun c _ => sep_mono_left (Entails.of_eq (show (bigSep Finset.univ fun k : Fin 13 => (atPos ER (kcell (c, k)) 0 ∅ 0 : sProp 𝕄)) = places c by unfold places; rw [bigSep_fin13]; rfl))))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_iff : ∀ a b : Dev nD, (barCell a = barCell b) ↔ (a = b) := by decide
theorem rcv_iff : ∀ (j i : Fin 6) (c d : Dev nD), (dmaCell c (rS' j) = rcv i d) ↔ (i = j ∧ d = peer j c) := by
  intro j i c d
  constructor
  · intro h
    have h1 : c = peer i d := congrArg (fun g : GSem nD τ sig => g.1.1) h
    have h2 : SemLoc.dma (rS' j) = SemLoc.dma (rS' i) := congrArg (fun g : GSem nD τ sig => g.2) h
    have h3 : (rS' j).val = (rS' i).val := congrArg Fin.val (SemLoc.dma.inj h2)
    have h4 : i = j := Fin.ext (by have h5 : 12 + j.val = 12 + i.val := h3; omega)
    subst h4
    exact ⟨rfl, by rw [h1, peer_peer]⟩
  · rintro ⟨rfl, rfl⟩
    show _ = dmaCell (peer i (peer i c)) (rS' i)
    rw [peer_peer]
theorem rcv_ne_bar (j : Fin 6) (c d : Dev nD) : rcv j c ≠ barCell d := fun h => by cases (congrArg Prod.snd h)

theorem owe_bar (d c : Dev nD) (l : List (Fin 6)) : owe d l (barCell c) () = 0 := by
  induction l with
  | nil => rfl
  | cons j l ih =>
    unfold owe
    rw [Pi.add_apply, Finsupp.add_apply, ih, tallyAt_apply, if_neg (fun h => rcv_ne_bar j d c h.1.symm)]

theorem owe_rcv (d c : Dev nD) (j : Fin 6) (l : List (Fin 6)) :
    owe d l (dmaCell c (rS' j)) () = if d = peer j c then l.count j * N else 0 := by
  induction l with
  | nil => unfold owe; rw [List.count_nil, Nat.zero_mul, ite_self]; rfl
  | cons i l ih =>
    unfold owe
    rw [Pi.add_apply, Finsupp.add_apply, ih, tallyAt_apply, List.count_cons]
    simp only [rcv_iff, and_true, beq_iff_eq]
    by_cases h : d = peer j c
    · by_cases hi : i = j
      · rw [if_pos h, if_pos h, if_pos ⟨hi, h⟩, if_pos hi, Nat.add_mul, Nat.one_mul]
      · rw [if_pos h, if_pos h, if_neg (fun h' => hi h'.1), if_neg hi, Nat.add_zero, Nat.add_zero]
    · rw [if_neg h, if_neg h, if_neg (fun h' => h h'.2)]

theorem owed_bar (d c : Dev nD) : O₀ d (barCell c) () = (if d = p2 c then 1 else 0) + (if d = p1 c then 1 else 0) := by
  unfold O₀ O₁
  rw [Pi.add_apply, Finsupp.add_apply, Pi.add_apply, Finsupp.add_apply, owe_bar, tallyAt_apply, tallyAt_apply, Nat.zero_add]
  simp only [bar_iff, and_true]
  have h2 : (c = p2 d) ↔ (d = p2 c) := ⟨fun h => by rw [h, p2_p2], fun h => by rw [h, p2_p2]⟩
  have h1 : (c = p1 d) ↔ (d = p1 c) := ⟨fun h => by rw [h, p1_p1], fun h => by rw [h, p1_p1]⟩
  simp only [h1, h2]

theorem owed_rcv (d c : Dev nD) (j : Fin 6) : O₀ d (dmaCell c (rS' j)) () = if d = peer j c then N else 0 := by
  unfold O₀ O₁
  rw [Pi.add_apply, Finsupp.add_apply, Pi.add_apply, Finsupp.add_apply, owe_rcv, tallyAt_apply, tallyAt_apply,
    if_neg (fun h : dmaCell c (rS' j) = barCell (p2 d) ∧ () = () => absurd (congrArg Prod.snd h.1) (by intro h'; cases h')),
    if_neg (fun h : dmaCell c (rS' j) = barCell (p1 d) ∧ () = () => absurd (congrArg Prod.snd h.1) (by intro h'; cases h')),
    show List.count j [0, 1, 2, 3, 4, 5] = 1 from by revert j; decide, Nat.one_mul]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (p2 c) fun _ => 1, Finset.sum_ite_eq' Finset.univ (p1 c) fun _ => 1, if_pos (Finset.mem_univ _), if_pos (Finset.mem_univ _)]

theorem launch_rcv (c : Dev nD) (j : Fin 6) :
    tallyOn (dmaCell c (rS' j)) (launchCredit (Pipeline.owing O₀) 0 (dmaCell c (rS' j))) = (tallyAt (dmaCell c (rS' j)) () N : CellTallies nD τ sig Unit) := by
  unfold tallyAt; refine congrArg _ (Finsupp.ext fun u => ?_); cases u
  rw [Pipeline.launchCredit_owing, Finsupp.single_eq_same, Finset.sum_congr rfl fun d _ => owed_rcv d c j, Finset.sum_ite_eq' Finset.univ (peer j c) fun _ => N,
    if_pos (Finset.mem_univ _)]

/-- The semaphores a device holds credit of. -/
def credSem (k : Fin 7) : SemLoc sig := Fin.cases (.reg barS) (fun j => .dma (rS' j)) k
theorem credSem_inj : Function.Injective credSem := by
  have h : ∀ k k' : Fin 7, credSem k = credSem k' → k = k' := by decide
  exact fun _ _ => h _ _

theorem creds (c : Dev nD) : (Pipeline.launchCred O₀ c : sProp 𝕄) ⊢ credits c := by
  unfold Pipeline.launchCred
  refine (BI.bigSep_subset (Finset.subset_univ (Finset.univ.map ⟨credSem, credSem_inj⟩))).trans ?_
  rw [bigSep_map, bigSep_univ_eq_bigSepL [0, (0 : Fin 6).succ, (1 : Fin 6).succ, (2 : Fin 6).succ, (3 : Fin 6).succ, (4 : Fin 6).succ, (5 : Fin 6).succ] (by decide) (by decide)]
  unfold credits
  rw [← launch_bar, ← launch_rcv, ← launch_rcv, ← launch_rcv, ← launch_rcv, ← launch_rcv, ← launch_rcv]
  exact BI.Entails.refl _

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' core records
  iintro ⟨-, Hlev, Hcr, -, ⟨%K, ⟨HI, HR⟩, Hp, Ht⟩⟩
  ihave Hc := (creds (F := F) c) $$ Hcr
  imodintro
  isplitl
  · isplitr [Hc]
    · iexists K
      isplitl [HI HR Hlev]
      · isplitl [HI]; · iexact HI
        isplitl [HR]; · iexact HR
        iexact Hlev
      isplitl [Hp] <;> iassumption
    · iexact Hc
  · iempintro

theorem scratch_eq (c : Dev nD) : (scratch c : sProp 𝕄) = Pipeline.scopedRest cfg0.spec c := by
  have h (b : Ref sig .tc) : (iprop(∃ w : b.ty.Contents (Elt F), owns (c : Thread nD τ) (Memref.whole b) fullShare w) : sProp 𝕄) = iprop(∃ f : Buf (Elt F) ((c : Thread nD τ).loc b), ((c : Thread nD τ).loc b) ↦{fullShare} f) := by
    refine Idealize.SL.BI.Entails.antisymm ?_ ?_
    · show (_ : sProp 𝕄) ⊢ _
      unfold owns; simp only [Memref.view_whole, View.read_whole, View.set_whole]
      iintro ⟨%w, %f, -, H⟩
      iexists f; iexact H
    · show (_ : sProp 𝕄) ⊢ _
      unfold owns; simp only [Memref.view_whole, View.read_whole, View.set_whole]
      iintro ⟨%f, H⟩
      iexists f, f
      isplitr; · ipureintro; rfl
      iexact H
  rw [scopedRest0_eq, ← h cc0_scratch0, ← h cc0_scratch1, ← h cc0_scratch2, ← h cc0_scratch3, ← h cc0_scratch4, ← h cc0_scratch5]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq, ownSems0_eq, unscopedSems0_eq]
  unfold Φ₁ zeros
  iintro ⟨Hr, HzB, HzS⟩
  isplitl [HzB]; · iexact HzB
  isplitl [HzS]; · iexact HzS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- At any float values, from any memory with all semaphores at zero, every fair execution on the four devices ends, with
    each device's arrays as computed by `finalA` and all semaphores at zero. -/
theorem run_main : θ_run defs (onTc (τ := τ) (main (F := F))) (st₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof
end
-- ==== Proof.Frames.lean ====
/-
The final arrays of the run in closed form, and the claims that the arguments are unchanged.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.KProof

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-- After the run an argument array holds what it held. -/
theorem finalA_in (c : Dev nD) (w : Fin 6) (h : w ≠ 5) :
    finalA m ρ c w = (st₀ m ρ).mem ((cfg0.win w).arr.view.loc (c : Thread nD τ)) :=
  (dats (F := F) m ρ 0 c).arrAt_in w (by revert w; decide) _

/-- The one block of the result array is what the body left. -/
theorem finalA_out (c : Dev nD) :
    (win0_5.blk (0 : Fin 1)).view.read (Elt F) (finalA m ρ c (5 : Fin 6)) = outC (ins m) c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-! The arrays are one block each. -/

theorem read_x (f : (main_arg0 : Ref sig .tc).ty.Contents (Elt F)) : (win0_0.blk (0 : Fin 1)).view.read (Elt F) f = f := by
  funext i
  show f _ = f _
  congr 1
  funext a
  exact Fin.ext (show 0 * _ + 1 * (i a).val = (i a).val by rw [Nat.zero_mul, Nat.zero_add, Nat.one_mul])
theorem read_wq (f : (main_arg1 : Ref sig .tc).ty.Contents (Elt F)) : (win0_1.blk (0 : Fin 1)).view.read (Elt F) f = f := by
  funext i
  show f _ = f _
  congr 1
  funext a
  exact Fin.ext (show 0 * _ + 1 * (i a).val = (i a).val by rw [Nat.zero_mul, Nat.zero_add, Nat.one_mul])
theorem read_wo (f : (main_arg4 : Ref sig .tc).ty.Contents (Elt F)) : (win0_2.blk (0 : Fin 1)).view.read (Elt F) f = f := by
  funext i
  show f _ = f _
  congr 1
  funext a
  exact Fin.ext (show 0 * _ + 1 * (i a).val = (i a).val by rw [Nat.zero_mul, Nat.zero_add, Nat.one_mul])
theorem read_k (f : (main_arg2 : Ref sig .tc).ty.Contents (Elt F)) : (win0_3.blk (0 : Fin 1)).view.read (Elt F) f = f := by
  funext i
  show f _ = f _
  congr 1
  funext a
  exact Fin.ext (show 0 * _ + 1 * (i a).val = (i a).val by rw [Nat.zero_mul, Nat.zero_add, Nat.one_mul])
theorem read_v (f : (main_arg3 : Ref sig .tc).ty.Contents (Elt F)) : (win0_4.blk (0 : Fin 1)).view.read (Elt F) f = f := by
  funext i
  show f _ = f _
  congr 1
  funext a
  exact Fin.ext (show 0 * _ + 1 * (i a).val = (i a).val by rw [Nat.zero_mul, Nat.zero_add, Nat.one_mul])
theorem read_out (f : (main_v1 : Ref sig .tc).ty.Contents (Elt F)) : (win0_5.blk (0 : Fin 1)).view.read (Elt F) f = f := by
  funext i
  show f _ = f _
  congr 1
  funext a
  exact Fin.ext (show 0 * _ + 1 * (i a).val = (i a).val by rw [Nat.zero_mul, Nat.zero_add, Nat.one_mul])

/-- The arguments are unchanged and all semaphores end at zero. -/
theorem run_args : θ_run defs (onTc (τ := τ) (main (F := F))) (st₀ m ρ)
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨(h.1 c 0).trans (finalA_in m ρ c 0 (by decide)), (h.1 c 1).trans (finalA_in m ρ c 1 (by decide)),
      (h.1 c 3).trans (finalA_in m ρ c 3 (by decide)), (h.1 c 4).trans (finalA_in m ρ c 4 (by decide)),
      (h.1 c 2).trans (finalA_in m ρ c 2 (by decide))⟩, h.2⟩) (run_main m ρ)

/-- The two programs are the same text. -/
theorem defs₀_eq : Cert.Kernel.defs₀ (F := Bits) = Cert.KernelIdeal.defs₀ (F := Bits) := by
  unfold Cert.Kernel.defs₀ Cert.KernelIdeal.defs₀
  refine congrArg _ ?_
  funext l a
  match l, a with
  | 0, (t, s) => rfl
theorem defs_eq : Cert.Kernel.defs (F := Bits) = Cert.KernelIdeal.defs (F := Bits) :=
  congrArg (Pipeline.defs (Cert.KernelIdeal.pcfgs (F := Bits))) defs₀_eq

/-- The kernel over bit patterns: it runs, its arguments end unchanged, its semaphores at zero. -/
theorem frame_kernel : Cert.quiescent_Kernel := fun m ρ _ => by
  rw [defs_eq]
  exact (θ_run Cert.KernelIdeal.defs _ _).mono (fun _ h => h) (run_args (F := Bits) m ρ)
/-- The same over the extended reals. -/
theorem frame_kernelIdeal : Cert.quiescent_KernelIdeal := fun m ρ _ => run_args (F := Ideal) m ρ

/-- The reference has no semaphore. -/
theorem ref_sem {α : Type} (f g : GSem Cert.ReferenceIdeal.nD Cert.ReferenceIdeal.τ Cert.ReferenceIdeal.sig → α) : f = g := by
  funext x
  rcases x with ⟨t, s | s⟩
  · exact s.elim0
  · exact s.elim0
/-- The reference runs, its arguments end unchanged, its semaphores at zero. -/
theorem frame_reference : Cert.quiescent_ReferenceIdeal := fun m ρ _ =>
  (θ_run Cert.ReferenceIdeal.defs _ _).mono (fun _ h => ⟨fun c => (h c).2, ref_sem _ _⟩) (Cert.ReferenceIdeal.Value.run (F := Ideal) m ρ)

end Cert.KProof
end
-- ==== Proof.Softmax.lean ====
/-
One row of attention in the extended reals.
-/
module

public import Idealize.ShloMosaic.Lib.Pointwise
public import Idealize.ShloMosaic.Lib.IdealHost

@[expose] public section

set_option maxRecDepth 16384

noncomputable section

namespace Cert.KProof

open Idealize.ShloMosaic
open scoped BigOperators

/-- The greatest of the scores of a row. -/
def rowMax (s : Fin 128 → EReal) : EReal :=
  Finset.fold max (Ideal.ofBits .f32 0xFF800000#32) s Finset.univ

/-- The weight of an entry before the row is normalized. -/
def rowWt (s : Fin 128 → EReal) (j : Fin 128) : EReal := Ideal.exp (s j - rowMax s)

/-- The weighted mean of the values of a row. -/
def rowMean (s v : Fin 128 → EReal) : EReal :=
  Ideal.div (∑ j, rowWt s j * v j) (∑ j, rowWt s j)

/-- A score: the product of a query and a key, scaled. -/
def dotScore (q k : Fin 64 → EReal) : EReal := (∑ d, q d * k d) * Ideal.ofBits .f32 0x3E000000#32

theorem negInf_bot : Ideal.ofBits .f32 0xFF800000#32 = (⊥ : EReal) := by
  simp [Ideal.ofBits, Ideal.ieee]

theorem posInf_top : Ideal.ofBits .f32 0x7F800000#32 = (⊤ : EReal) := by
  simp [Ideal.ofBits, Ideal.ieee]

/-- An extended real that is a real number. -/
def IsR (x : EReal) : Prop := ∃ r : ℝ, x = (r : EReal)

theorem IsR.mul {x y : EReal} (hx : IsR x) (hy : IsR y) : IsR (x * y) := by
  obtain ⟨r, rfl⟩ := hx; obtain ⟨t, rfl⟩ := hy; exact ⟨r * t, (EReal.coe_mul r t).symm⟩

theorem IsR.sum {ι : Type} (s : Finset ι) (f : ι → EReal) (hf : ∀ i, IsR (f i)) : IsR (∑ i ∈ s, f i) := by
  classical
  induction s using Finset.induction_on with
  | empty => exact ⟨0, by simp⟩
  | insert a s ha ih =>
    rw [Finset.sum_insert ha]
    obtain ⟨r, hr⟩ := hf a
    obtain ⟨t, ht⟩ := ih
    exact ⟨r + t, by rw [hr, ht]; exact (EReal.coe_add r t).symm⟩

theorem isR_scale : IsR (Ideal.ofBits .f32 0x3E000000#32) := by
  have e : Ideal.ofBits .f32 0x3E000000#32 = (((1 : ℝ) / 8 : ℝ) : EReal) := by
    simp [Ideal.ofBits, Ideal.ieee, -EReal.coe_mul]; norm_num
  exact ⟨_, e⟩

theorem isR_of_abs_lt {x : EReal} (h : max x (-x) < ⊤) : IsR x := by
  induction x using EReal.rec with
  | bot => simp at h
  | top => simp at h
  | coe r => exact ⟨r, rfl⟩

theorem IsR.dotScore {q k : Fin 64 → EReal} (hq : ∀ d, IsR (q d)) (hk : ∀ d, IsR (k d)) : IsR (dotScore q k) :=
  (IsR.sum _ _ fun d => (hq d).mul (hk d)).mul isR_scale

theorem exp_nonneg (x : EReal) : 0 ≤ Ideal.exp x := by
  induction x using EReal.rec with
  | bot => exact le_refl _
  | top => exact le_top
  | coe r => exact EReal.coe_nonneg.mpr (Real.exp_pos r).le

theorem fold_max_attained (s : Fin 128 → EReal) (t : Finset (Fin 128)) (ht : t.Nonempty) :
    ∃ j ∈ t, Finset.fold max (⊥ : EReal) s t = s j := by
  classical
  induction ht using Finset.Nonempty.cons_induction with
  | singleton a => exact ⟨a, by simp, by simp⟩
  | cons a t ha hn ih =>
    obtain ⟨j, hj, e⟩ := ih
    rw [Finset.fold_cons, e]
    rcases le_total (s a) (s j) with h | h
    · exact ⟨j, Finset.mem_cons_of_mem hj, max_eq_right h⟩
    · exact ⟨a, Finset.mem_cons_self a t, max_eq_left h⟩

/-- The weights of a row of real scores do not add up to zero: the greatest score weighs one. -/
theorem rowWt_sum_ne_zero (s : Fin 128 → EReal) (hs : ∀ j, IsR (s j)) : ∑ j, rowWt s j ≠ 0 := by
  obtain ⟨j, -, e⟩ := fold_max_attained s Finset.univ ⟨0, Finset.mem_univ _⟩
  have hp : 0 < rowWt s j := by
    unfold rowWt rowMax
    rw [negInf_bot, e]
    obtain ⟨r, hr⟩ := hs j
    rw [hr, ← EReal.coe_sub]
    exact EReal.coe_pos.mpr (Real.exp_pos _)
  have := Finset.single_le_sum (f := rowWt s) (fun i _ => exp_nonneg _) (Finset.mem_univ j)
  exact (lt_of_lt_of_le hp this).ne'

/-- Dividing after the weighted sum or multiplying by the inverse of the weights' sum is the same on real scores. -/
theorem rowMean_eq (s v : Fin 128 → EReal) (hs : ∀ j, IsR (s j)) :
    (∑ j, rowWt s j * v j) * Ideal.div 1 (∑ j, rowWt s j) = rowMean s v :=
  Ideal.mul_one_div (rowWt_sum_ne_zero s hs)

end Cert.KProof
end
-- ==== Proof.HeadValue.lean ====
/-
One attention head in the extended reals.
-/
module

public import proofs.«01_k».proof.Proof.Values
public import proofs.«01_k».proof.Proof.Softmax

@[expose] public section

set_option maxRecDepth 16384

noncomputable section

namespace Cert.KProof

open Cert.KernelIdeal Cert.KernelIdeal.Gen
open Idealize.ShloMosaic Idealize.ShloMosaic.TcCoe
open scoped BigOperators

section Term

variable {F : FTy → Type} [FloatOps F]

/-- One head from its queries and from its slices of the keys and of the values. -/
def headT (q : FVec F S128x64 .bf16) (kb vb : Vec F S1x128x1x64 .f32) : FVec F S128x64 .bf16 :=
  have k : FVec F S128x64 .bf16 := truncf .bf16 (shapeCast S128x64 (shapeCast S1x128x64 kb shapeCasts_S1x128x1x64_S1x128x64) shapeCasts_S1x128x64_S128x64) bitsLt_bf16_f32
  have v : FVec F S128x64 .bf16 := truncf .bf16 (shapeCast S128x64 (shapeCast S1x128x64 vb shapeCasts_S1x128x1x64_S1x128x64) shapeCasts_S1x128x64_S128x64) bitsLt_bf16_f32
  have s : FVec F S128x128 .f32 := mulf (matmul dot_S128x64_S128x64_S128x128_1_1_0_0_n_n none q k (constant S128x128 .f32 0x00000000#32)) (broadcast S128x128 (Scalar.ofBits .f32 0x3E000000#32))
  have m : FVec F S128 .f32 := multiReduction .maximumf [1] S128 s 0xFF800000#32 reduces_S128x128_S128 (.inl rfl) rfl
  have p : FVec F S128x128 .f32 := exp (subf s (broadcastTo S128x128 (shapeCast S128x1 m shapeCasts_S128_S128x1) broadcasts_S128x1_S128x128))
  have l : FVec F S128 .f32 := multiReduction .add [1] S128 p 0x00000000#32 reduces_S128x128_S128 (.inl rfl) rfl
  have o : FVec F S128x64 .f32 := matmul dot_S128x128_S128x64_S128x64_1_0_0_1_n_n none (truncf .bf16 p bitsLt_bf16_f32) v (constant S128x64 .f32 0x00000000#32)
  have r : FVec F S128x64 .f32 := broadcastTo S128x64 (divf (broadcast S128x1 (Scalar.ofBits .f32 0x3F800000#32)) (shapeCast S128x1 l shapeCasts_S128_S128x1)) broadcasts_S128x1_S128x64
  shapeCast S128x64 (truncf .bf16 (mulf o r) bitsLt_bf16_f32) shapeCasts_S128x64_S128x64

variable (I : Ins F) (b : Fin 2)

/-- The queries of one head of a batch. -/
def qHd (h : Fin 8) : FVec F S128x64 .bf16 := fun j => qF I b ((rS h).emb j)

theorem qHd_slice (h : Fin 8) (hs : S128x512.Slices (![0, 64 * h.val] : Fin 2 → Nat) S128x64) : extractStridedSlice S128x64 ![0, 64 * h.val] (qF I b) hs = qHd I b h := by
  funext j
  show qF I b _ = qF I b _
  congr 1
  funext a
  apply Fin.ext
  fin_cases a
  · show 0 + (j 0).val = 0 + 1 * (j 0).val
    omega
  · show 64 * h.val + (j 1).val = 64 * h.val + 1 * (j 1).val
    omega

theorem slices_head (h : Fin 8) : S128x512.Slices (![0, 64 * h.val] : Fin 2 → Nat) S128x64 := by
  revert h; decide

/-- Both rounds compute the same queries. -/
theorem qS_eq : qS I b = qF I b := rfl

theorem headF_eq (h : Fin 8) : headF I b h = headT (qHd I b h) (kHd I b h) (vHd I b h) := by
  have e : ∀ (h : Fin 8) (hs : S128x512.Slices (![0, 64 * h.val] : Fin 2 → Nat) S128x64),
      headF I b h = headT (extractStridedSlice S128x64 ![0, 64 * h.val] (qF I b) hs) (kHd I b h) (vHd I b h) := by
    intro h hs
    fin_cases h <;> rfl
  rw [e h (slices_head h), qHd_slice]

theorem headS_eq (h : Fin 8) : headS I b h = headT (qHd I b h) (kHd I b h) (vHd I b h) := by
  have e : ∀ (h : Fin 8) (hs : S128x512.Slices (![0, 64 * h.val] : Fin 2 → Nat) S128x64),
      headS I b h = headT (extractStridedSlice S128x64 ![0, 64 * h.val] (qF I b) hs) (kHd I b h) (vHd I b h) := by
    intro h hs
    fin_cases h <;> rfl
  rw [e h (slices_head h), qHd_slice]

end Term

/-- A head is the weighted sum of its values times the inverse of the sum of the weights. -/
theorem headT_apply (q : FVec Ideal S128x64 .bf16) (kb vb : Vec Ideal S1x128x1x64 .f32) (i : Fin 128) (d : Fin 64) (s : Fin 128 → EReal)
    (hs : ∀ j, s j = dotScore (fun e => q (ix2 i e)) (fun e => kb (ix4 0 j 0 e))) :
    headT q kb vb (ix2 i d) = (∑ j, rowWt s j * vb (ix4 0 j 0 d)) * Ideal.div 1 (∑ j, rowWt s j) := by
  obtain rfl : s = fun j => dotScore (fun e => q (ix2 i e)) (fun e => kb (ix4 0 j 0 e)) := funext hs
  pointwise [headT]
  rfl

end Cert.KProof
end
-- ==== Proof.RowValue.lean ====
/-
A device's part of the output projection, and the sum over the devices, in the extended reals.
-/
module

public import proofs.«01_k».proof.Proof.HeadValue

@[expose] public section

set_option maxRecDepth 16384

noncomputable section

namespace Cert.KProof

open Cert.KernelIdeal Cert.KernelIdeal.Gen
open Idealize.ShloMosaic Idealize.ShloMosaic.TcCoe
open scoped BigOperators

section Reads

variable {V : Type}

theorem rR_emb (b : Fin 2) (i : Fin 128) (n : Fin 512) : (rR b).emb (ix3 0 i n) = ix3 b i n := by
  funext a
  apply Fin.ext
  fin_cases a
  · show b.val + 1 * 0 = b.val
    omega
  · show 0 + 1 * i.val = i.val
    omega
  · show 0 + 1 * n.val = n.val
    omega

theorem rH_emb (b : Fin 2) (h : Fin 8) (i : Fin 128) (d : Fin 64) : (rH b h).emb (ix4 0 i 0 d) = ix4 b i h d := by
  funext a
  apply Fin.ext
  fin_cases a
  · show b.val + 1 * 0 = b.val
    omega
  · show 0 + 1 * i.val = i.val
    omega
  · show h.val + 1 * 0 = h.val
    omega
  · show 0 + 1 * d.val = d.val
    omega

theorem rS_emb (h : Fin 8) (i : Fin 128) (d : Fin 64) : (rS h).emb (ix2 i d) = ix2 i ⟨64 * h.val + d.val, by omega⟩ := by
  funext a
  apply Fin.ext
  fin_cases a
  · show 0 + 1 * i.val = i.val
    omega
  · show 64 * h.val + 1 * d.val = 64 * h.val + d.val
    omega

theorem rQ_emb_false (b : Fin 2) (i : Fin 128) (n : Fin 256) : (rQ (false, b)).emb (ix3 0 i n) = ix3 b i ⟨n.val, by omega⟩ := by
  funext a
  apply Fin.ext
  fin_cases a
  · show b.val + 1 * 0 = b.val
    omega
  · show 0 + 1 * i.val = i.val
    omega
  · show 0 + 1 * n.val = n.val
    omega

theorem rQ_emb_true (b : Fin 2) (i : Fin 128) (n : Fin 256) : (rQ (true, b)).emb (ix3 0 i n) = ix3 b i ⟨256 + n.val, by omega⟩ := by
  funext a
  apply Fin.ext
  fin_cases a
  · show b.val + 1 * 0 = b.val
    omega
  · show 0 + 1 * i.val = i.val
    omega
  · show 256 + 1 * n.val = 256 + n.val
    omega

theorem cA_emb (i : Fin 128) (n : Fin 256) : cA.emb (ix3 0 i n) = ix3 0 i ⟨n.val, by omega⟩ := by
  funext a
  apply Fin.ext
  fin_cases a
  · rfl
  · show 0 + 1 * i.val = i.val
    omega
  · show 0 + 1 * n.val = n.val
    omega

theorem cB_emb (i : Fin 128) (n : Fin 256) : cB.emb (ix3 0 i n) = ix3 0 i ⟨256 + n.val, by omega⟩ := by
  funext a
  apply Fin.ext
  fin_cases a
  · rfl
  · show 0 + 1 * i.val = i.val
    omega
  · show 256 + 1 * n.val = 256 + n.val
    omega

theorem attnOf_apply (hd : Fin 8 → S128x64.Idx → V) (i : Fin 128) (z : Fin 512) :
    attnOf hd (ix2 i z) = hd ⟨z.val / 64, by omega⟩ (ix2 i ⟨z.val % 64, by omega⟩) := by
  rw [← congrFun (attnOf_emb hd ⟨z.val / 64, by omega⟩) (ix2 i ⟨z.val % 64, by omega⟩)]
  show _ = attnOf hd _
  rw [rS_emb]
  congr 2
  apply Fin.ext
  show z.val = 64 * (z.val / 64) + z.val % 64
  omega

end Reads

/-! ## A device's part -/

section Part

variable (I : Ins Ideal) (b : Fin 2)

/-- A query of a device: its batch, its row, its column. -/
def qV (i : Fin 128) (n : Fin 512) : EReal := ∑ e : Fin 512, I.x (ix3 b i e) * I.wq (ix2 e n)

theorem pay3_apply (wq : Vec Ideal S512x512 .f32) (xr : Vec Ideal S1x128x512 .f32) (i : Fin 128) (n : Fin 512) :
    k0_pay3 wq xr (ix2 i n) = ∑ e : Fin 512, xr (ix3 0 i e) * wq (ix2 e n) := by
  pointwise [k0_pay3, k0_pay1]

theorem qF_apply (i : Fin 128) (n : Fin 512) : qF I b (ix2 i n) = qV I b i n := by
  unfold qF
  rw [pay3_apply]
  refine Finset.sum_congr rfl fun e _ => ?_
  show I.x _ * _ = _
  rw [rR_emb]

/-- The scores of a row of one head of a device. -/
def sV (h : Fin 8) (i : Fin 128) (j : Fin 128) : EReal :=
  dotScore (fun d => qV I b i ⟨64 * h.val + d.val, by omega⟩) (fun d => I.k (ix4 b j h d))

/-- A head of a device, before the normalization is simplified. -/
def hV (h : Fin 8) (i : Fin 128) (d : Fin 64) : EReal :=
  (∑ j, rowWt (sV I b h i) j * I.v (ix4 b j h d)) * Ideal.div 1 (∑ j, rowWt (sV I b h i) j)

theorem headT_V (h : Fin 8) (i : Fin 128) (d : Fin 64) : headT (qHd I b h) (kHd I b h) (vHd I b h) (ix2 i d) = hV I b h i d := by
  rw [headT_apply _ _ _ i d (sV I b h i)]
  · unfold hV
    congr 1
    refine Finset.sum_congr rfl fun j _ => ?_
    show _ * I.v _ = _
    rw [rH_emb]
  · intro j
    unfold sV
    congr 1
    · funext e
      show _ = qF I b _
      rw [rS_emb, qF_apply]
    · funext e
      show _ = I.k _
      rw [rH_emb]

/-- A device's part of the result. -/
def pV (i : Fin 128) (n : Fin 512) : EReal :=
  ∑ z : Fin 512, hV I b ⟨z.val / 64, by omega⟩ i ⟨z.val % 64, by omega⟩ * I.wo (ix2 z n)

theorem pay26_apply (wo : Vec Ideal S512x512 .f32) (a : Vec Ideal S128x512 .bf16) (i : Fin 128) (n : Fin 512) :
    k0_pay26 (k0_pay25 (k0_pay2 wo) a) (ix3 0 i n) = ∑ z : Fin 512, a (ix2 i z) * wo (ix2 z n) := by
  pointwise [k0_pay26, k0_pay25, k0_pay2]

theorem pay49_apply (wo : Vec Ideal S512x512 .f32) (a : Vec Ideal S128x512 .bf16) (i : Fin 128) (n : Fin 512) :
    k0_pay49 (k0_pay48 (k0_pay2 wo) a) (ix3 0 i n) = ∑ z : Fin 512, a (ix2 i z) * wo (ix2 z n) := by
  pointwise [k0_pay49, k0_pay48, k0_pay2]

theorem rowF_apply (i : Fin 128) (n : Fin 512) : rowF I b (ix3 0 i n) = pV I b i n := by
  unfold rowF
  rw [pay26_apply]
  refine Finset.sum_congr rfl fun z _ => ?_
  rw [attnOf_apply, headF_eq, headT_V]

theorem rowS_apply (i : Fin 128) (n : Fin 512) : rowS I b (ix3 0 i n) = pV I b i n := by
  unfold rowS
  rw [pay49_apply]
  refine Finset.sum_congr rfl fun z _ => ?_
  rw [attnOf_apply, headS_eq, headT_V]

end Part

/-! ## The sum over the devices -/

section Sums

variable (J : Dev nD → Ins Ideal)

theorem prt_apply (c : Dev nD) (b : Fin 2) (i : Fin 128) (n : Fin 512) : prt J c b (ix3 0 i n) = pV (J c) b i n := by
  unfold prt
  split
  · exact rowS_apply _ _ _ _
  · exact rowF_apply _ _ _ _

theorem colA_prt (c : Dev nD) (b : Fin 2) (i : Fin 128) (n : Fin 256) : colA (prt J c b) (ix3 0 i n) = pV (J c) b i ⟨n.val, by omega⟩ := by
  show prt J c b _ = _
  rw [cA_emb, prt_apply]

theorem colB_prt (c : Dev nD) (b : Fin 2) (i : Fin 128) (n : Fin 256) : colB (prt J c b) (ix3 0 i n) = pV (J c) b i ⟨256 + n.val, by omega⟩ := by
  show prt J c b _ = _
  rw [cB_emb, prt_apply]

theorem A1_apply (c : Dev nD) (i : Fin 128) (n : Fin 256) :
    A1 J c (ix3 0 i n) = pV (J c) (ha c) i ⟨n.val, by omega⟩ + pV (J (p1 c)) (ha c) i ⟨n.val, by omega⟩ := by
  rw [← colA_prt, ← colA_prt]
  unfold A1
  generalize colA (prt J c (ha c)) = u
  generalize colA (prt J (p1 c) (ha c)) = w
  pointwise [k0_pay51, k0_pay50]

theorem A2_apply (c : Dev nD) (i : Fin 128) (n : Fin 256) : A2 J c (ix3 0 i n) = A1 J c (ix3 0 i n) + A1 J (p2 c) (ix3 0 i n) := by
  unfold A2
  generalize A1 J c = u
  generalize A1 J (p2 c) = w
  pointwise [k0_pay53]

theorem B1_apply (c : Dev nD) (i : Fin 128) (n : Fin 256) :
    B1 J c (ix3 0 i n) = pV (J c) (hb c) i ⟨256 + n.val, by omega⟩ + pV (J (p2 c)) (hb c) i ⟨256 + n.val, by omega⟩ := by
  rw [← colB_prt, ← colB_prt]
  unfold B1
  generalize colB (prt J c (hb c)) = u
  generalize colB (prt J (p2 c) (hb c)) = w
  pointwise [k0_pay52]

theorem B2_apply (c : Dev nD) (i : Fin 128) (n : Fin 256) : B2 J c (ix3 0 i n) = B1 J c (ix3 0 i n) + B1 J (p1 c) (ix3 0 i n) := by
  unfold B2
  generalize B1 J c = u
  generalize B1 J (p1 c) = w
  pointwise [k0_pay55]

/-- The sum of the four devices' parts. -/
def tV (b : Fin 2) (i : Fin 128) (n : Fin 512) : EReal := ∑ c : Fin 4, pV (J c) b i n

theorem four_sum (f : Fin 4 → EReal) (c : Fin 4) : (f c + f (p1 c)) + (f (p2 c) + f (p1 (p2 c))) = ∑ c : Fin 4, f c := by
  rw [Fin.sum_univ_four]
  fin_cases c
  · show (f 0 + f 1) + (f 3 + f 2) = _
    ac_rfl
  · show (f 1 + f 0) + (f 2 + f 3) = _
    ac_rfl
  · show (f 2 + f 3) + (f 1 + f 0) = _
    ac_rfl
  · show (f 3 + f 2) + (f 0 + f 1) = _
    ac_rfl

theorem four_sum' (f : Fin 4 → EReal) (c : Fin 4) : (f c + f (p2 c)) + (f (p1 c) + f (p2 (p1 c))) = ∑ c : Fin 4, f c := by
  rw [Fin.sum_univ_four]
  fin_cases c
  · show (f 0 + f 3) + (f 1 + f 2) = _
    ac_rfl
  · show (f 1 + f 2) + (f 0 + f 3) = _
    ac_rfl
  · show (f 2 + f 1) + (f 3 + f 0) = _
    ac_rfl
  · show (f 3 + f 0) + (f 2 + f 1) = _
    ac_rfl

theorem A2_V (c : Dev nD) (i : Fin 128) (n : Fin 256) : A2 J c (ix3 0 i n) = tV J (ha c) i ⟨n.val, by omega⟩ := by
  rw [A2_apply, A1_apply, A1_apply, ha_p2]
  exact four_sum (fun c' => pV (J c') (ha c) i ⟨n.val, by omega⟩) c

theorem B2_V (c : Dev nD) (i : Fin 128) (n : Fin 256) : B2 J c (ix3 0 i n) = tV J (hb c) i ⟨256 + n.val, by omega⟩ := by
  rw [B2_apply, B1_apply, B1_apply, hb_p1]
  exact four_sum' (fun c' => pV (J c') (hb c) i ⟨256 + n.val, by omega⟩) c

theorem eq_nb {b b' : Fin 2} (h : b ≠ b') : b = nb b' := by revert h b b'; decide

/-- Each device's result is the sum of the four devices' parts. -/
theorem outC_apply (c : Dev nD) (b : Fin 2) (i : Fin 128) (n : Fin 512) : outC J c (ix3 b i n) = tV J b i n := by
  by_cases hn : n.val < 256
  · have e := congrFun (outC_emb J c (false, b)) (ix3 0 i ⟨n.val, hn⟩)
    rw [rQ_emb_false] at e
    refine e.trans ?_
    unfold outQ
    dsimp only
    split
    · rename_i h
      subst h
      exact A2_V J c i ⟨n.val, hn⟩
    · rename_i h
      obtain rfl := eq_nb h
      exact (A2_V J (p1 c) i ⟨n.val, hn⟩).trans (by rw [ha_p1])
  · have hn' : n.val - 256 < 256 := by omega
    have en : (⟨256 + (n.val - 256), by omega⟩ : Fin 512) = n := Fin.ext (by show 256 + (n.val - 256) = n.val; omega)
    have e := congrFun (outC_emb J c (true, b)) (ix3 0 i ⟨n.val - 256, hn'⟩)
    rw [rQ_emb_true] at e
    dsimp only at e
    rw [en] at e
    refine e.trans ?_
    unfold outQ
    dsimp only
    split
    · rename_i h
      subst h
      exact (B2_V J c i ⟨n.val - 256, hn'⟩).trans (by dsimp only; rw [en])
    · rename_i h
      obtain rfl := eq_nb h
      exact (B2_V J (p2 c) i ⟨n.val - 256, hn'⟩).trans (by dsimp only; rw [en, hb_p2])

end Sums

end Cert.KProof
end
-- ==== Proof.RefValue.lean ====
/-
The reference in the extended reals.
-/
module

public import proofs.«01_k».proof.Proof.Gen.ReferenceIdeal.Run
public import proofs.«01_k».proof.Proof.Softmax

@[expose] public section

set_option maxRecDepth 16384

noncomputable section

namespace Cert.KProof.Ref

open Cert.ReferenceIdeal Cert.ReferenceIdeal.Gen
open Idealize.ShloMosaic Idealize.ShloMosaic.TcCoe
open scoped BigOperators

section Term

variable {F : FTy → Type} [FloatOps F]

/-- The queries of all the heads. -/
def refQ (x : FVec F S2x128x512 .f32) (wq : FVec F S512x2048 .f32) : FVec F S2x128x32x64 .f32 :=
  shapeCast _ (Host.dotGeneral dot_S2x128x512_S512x2048_S2x128x2048_2_0_01_1_n_n none x wq) shapeCasts_S2x128x2048_S2x128x32x64
/-- The scaled scores. -/
def refS (q k : FVec F S2x128x32x64 .f32) : FVec F S2x32x128x128 .f32 :=
  mulf (Host.dotGeneral dot_S2x128x32x64_S2x128x32x64_S2x32x128x128_3_3_1_1_02_02 none q k) (broadcastInDim S2x32x128x128 ![] bcast_S_S2x32x128x128 (constant S_ .f32 0x3E000000#32))
/-- The greatest score of a row. -/
def refM (s : FVec F S2x32x128x128 .f32) : FVec F S2x32x128x1 .f32 :=
  maximumf (broadcastInDim S2x32x128x1 ![] bcast_S_S2x32x128x1 (constant S_ .f32 0xFF800000#32)) (broadcastInDim S2x32x128x1 ![0, 1, 2] bcast_S2x32x128_S2x32x128x1_0_1_2 (Host.reduce FloatOps.maximumf s (constant S_ .f32 0xFF800000#32) reducesTo_S2x32x128x128_S2x32x128_d3 h_S_))
/-- The factor that the loop gives to what it had before its one round. -/
def refAl (m : FVec F S2x32x128x1 .f32) : FVec F S2x32x128x1 .f32 :=
  Host.exp (subf (broadcastInDim S2x32x128x1 ![] bcast_S_S2x32x128x1 (constant S_ .f32 0xFF800000#32)) m)
/-- The weights before they are normalized. -/
def refP (s : FVec F S2x32x128x128 .f32) (m : FVec F S2x32x128x1 .f32) : FVec F S2x32x128x128 .f32 :=
  Host.exp (subf s (broadcastInDim S2x32x128x128 ![0, 1, 2, 3] bcast_S2x32x128x1_S2x32x128x128_0_1_2_3 m))
/-- Their sums. -/
def refL (m : FVec F S2x32x128x1 .f32) (p : FVec F S2x32x128x128 .f32) : FVec F S2x32x128x1 .f32 :=
  addf (mulf (broadcastInDim S2x32x128x1 ![] bcast_S_S2x32x128x1 (constant S_ .f32 0x00000000#32)) (refAl m)) (broadcastInDim S2x32x128x1 ![0, 1, 2] bcast_S2x32x128_S2x32x128x1_0_1_2 (Host.reduceAdd p (constant S_ .f32 0x00000000#32) reducesTo_S2x32x128x128_S2x32x128_d3 h_S_))
/-- The weighted sums of the values. -/
def refO (m : FVec F S2x32x128x1 .f32) (p : FVec F S2x32x128x128 .f32) (v : FVec F S2x128x32x64 .f32) : FVec F S2x128x32x64 .f32 :=
  addf (mulf (broadcastInDim S2x128x32x64 ![] bcast_S_S2x128x32x64 (constant S_ .f32 0x00000000#32)) (broadcastInDim S2x128x32x64 ![0, 1, 2, 3] bcast_S2x128x32x1_S2x128x32x64_0_1_2_3 (transpose S2x128x32x1 [0, 2, 1, 3] (refAl m) transposes_S2x32x128x1_S2x128x32x1_0_2_1_3))) (transpose S2x128x32x64 [0, 3, 1, 2] (Host.dotGeneral dot_S2x128x32x64_S2x32x128x128_S2x32x64x128_1_3_3_2_02_01 none v p) transposes_S2x32x64x128_S2x128x32x64_0_3_1_2)
/-- The heads. -/
def refA (q k v : FVec F S2x128x32x64 .f32) : FVec F S2x128x32x64 .f32 :=
  Host.divf (refO (refM (refS q k)) (refP (refS q k) (refM (refS q k))) v) (broadcastInDim S2x128x32x64 ![0, 1, 2, 3] bcast_S2x128x32x1_S2x128x32x64_0_1_2_3 (transpose S2x128x32x1 [0, 2, 1, 3] (refL (refM (refS q k)) (refP (refS q k) (refM (refS q k)))) transposes_S2x32x128x1_S2x128x32x1_0_2_1_3))
/-- The result. -/
def refR (x : FVec F S2x128x512 .f32) (wq : FVec F S512x2048 .f32) (k v : FVec F S2x128x32x64 .f32) (wo : FVec F S2048x512 .f32) : FVec F S2x128x512 .f32 :=
  Host.dotGeneral dot_S2x128x2048_S2048x512_S2x128x512_2_0_01_1_n_n none (shapeCast S2x128x2048 (refA (refQ x wq) k v) shapeCasts_S2x128x32x64_S2x128x2048) wo

theorem res_eq (m : (ℓ : Loc nD τ sig) → Buf (Elt F) ℓ) (c : Dev nD) :
    Value.res_out0 m c = refR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_out0 Value.res_main_v30; rfl

end Term

theorem refQ_apply (x : FVec Ideal S2x128x512 .f32) (wq : FVec Ideal S512x2048 .f32) (b : Fin 2) (i : Fin 128) (h : Fin 32) (d : Fin 64) (n : Fin 2048) (hn : n.val = h.val * 64 + d.val) :
    refQ x wq (ix4 b i h d) = ∑ e : Fin 512, x (ix3 b i e) * wq (ix2 e n) := by
  obtain ⟨n, hlt⟩ := n
  obtain rfl : n = h.val * 64 + d.val := hn
  pointwise [refQ]

theorem refS_apply (q k : FVec Ideal S2x128x32x64 .f32) (b : Fin 2) (i : Fin 128) (h : Fin 32) (j : Fin 128) :
    refS q k (ix4 b h i j) = dotScore (fun d => q (ix4 b i h d)) (fun d => k (ix4 b j h d)) := by
  pointwise [refS]
  rfl

theorem refM_apply (s : FVec Ideal S2x32x128x128 .f32) (b : Fin 2) (i : Fin 128) (h : Fin 32) :
    refM s (ix4 b h i 0) = rowMax (fun j => s (ix4 b h i j)) := by
  pointwise [refM]
  rw [negInf_bot, max_eq_right bot_le, ← negInf_bot]
  rfl

theorem refP_apply (s : FVec Ideal S2x32x128x128 .f32) (b : Fin 2) (i : Fin 128) (h : Fin 32) (j : Fin 128) :
    refP s (refM s) (ix4 b h i j) = rowWt (fun j => s (ix4 b h i j)) j := by
  have e : refP s (refM s) (ix4 b h i j) = Ideal.exp (s (ix4 b h i j) - refM s (ix4 b h i 0)) := by pointwise [refP]
  rw [e, refM_apply]
  rfl

theorem refL_apply (m : FVec Ideal S2x32x128x1 .f32) (p : FVec Ideal S2x32x128x128 .f32) (b : Fin 2) (i : Fin 128) (h : Fin 32) :
    refL m p (ix4 b h i 0) = ∑ j, p (ix4 b h i j) := by
  pointwise [refL]
  rw [zero_mul, zero_add]

theorem refO_apply (m : FVec Ideal S2x32x128x1 .f32) (p : FVec Ideal S2x32x128x128 .f32) (v : FVec Ideal S2x128x32x64 .f32) (b : Fin 2) (i : Fin 128) (h : Fin 32) (d : Fin 64) :
    refO m p v (ix4 b i h d) = ∑ j, p (ix4 b h i j) * v (ix4 b j h d) := by
  pointwise [refO]
  rw [zero_mul, zero_add]
  exact Finset.sum_congr rfl fun j _ => mul_comm _ _

/-- A head of the reference is the weighted mean of its values. -/
theorem refA_apply (q k v : FVec Ideal S2x128x32x64 .f32) (b : Fin 2) (i : Fin 128) (h : Fin 32) (d : Fin 64) :
    refA q k v (ix4 b i h d) = rowMean (fun j => dotScore (fun d => q (ix4 b i h d)) (fun d => k (ix4 b j h d))) (fun j => v (ix4 b j h d)) := by
  have e : ∀ (o : FVec Ideal S2x128x32x64 .f32) (l : FVec Ideal S2x32x128x1 .f32), Host.divf o (broadcastInDim S2x128x32x64 ![0, 1, 2, 3] bcast_S2x128x32x1_S2x128x32x64_0_1_2_3 (transpose S2x128x32x1 [0, 2, 1, 3] l transposes_S2x32x128x1_S2x128x32x1_0_2_1_3)) (ix4 b i h d) = Ideal.div (o (ix4 b i h d)) (l (ix4 b h i 0)) := by
    intro o l
    pointwise []
  unfold refA
  rw [e, refO_apply, refL_apply]
  simp only [refP_apply, refS_apply]
  rfl

theorem refR_apply (x : FVec Ideal S2x128x512 .f32) (wq : FVec Ideal S512x2048 .f32) (k v : FVec Ideal S2x128x32x64 .f32) (wo : FVec Ideal S2048x512 .f32) (b : Fin 2) (i : Fin 128) (n : Fin 512) :
    refR x wq k v wo (ix3 b i n) = ∑ z : Fin 2048, refA (refQ x wq) k v (ix4 b i ⟨z.val / 64, by omega⟩ ⟨z.val % 64, by omega⟩) * wo (ix2 z n) := by
  pointwise [refR]

end Cert.KProof.Ref
end
-- ==== Proof.Value.lean ====
/-
The value claim: over the extended reals, on finite scores, every device ends with the reference's result.
-/
module

public import proofs.«01_k».proof.Proof.RowValue
public import proofs.«01_k».proof.Proof.RefValue
public import proofs.«01_k».proof.Proof.Frames
public import proofs.«01_k».proof.Proof.Gen.Pre_finite_scores_KernelIdeal
public import proofs.«01_k».proof.Proof.Gen.Pre_finite_scores_ReferenceIdeal
public import Idealize.ShloMosaic.Lib.LayoutAt

@[expose] public section

set_option maxRecDepth 16384

noncomputable section

namespace Cert.KProof

open Cert.KernelIdeal Cert.KernelIdeal.Gen
open Idealize.ShloMosaic Idealize.ShloMosaic.TcCoe
open Idealize.SL.Sem
open scoped BigOperators

/-- The devices' arguments are the parts of whole arrays. -/
structure Parts (J : Dev nD → Ins Ideal) (x : FVec Ideal Cert.ReferenceIdeal.S2x128x512 .f32) (wq : FVec Ideal Cert.ReferenceIdeal.S512x2048 .f32)
    (k v : FVec Ideal Cert.ReferenceIdeal.S2x128x32x64 .f32) (wo : FVec Ideal Cert.ReferenceIdeal.S2048x512 .f32) : Prop where
  x : ∀ c : Fin 4, (J c).x = x
  wq : ∀ (c : Fin 4) (e n : Fin 512), (J c).wq (ix2 e n) = wq (ix2 e ⟨c.val * 512 + n.val, by omega⟩)
  k : ∀ (c : Fin 4) (b : Fin 2) (j : Fin 128) (h : Fin 8) (d : Fin 64), (J c).k (ix4 b j h d) = k (ix4 b j ⟨c.val * 8 + h.val, by omega⟩ d)
  v : ∀ (c : Fin 4) (b : Fin 2) (j : Fin 128) (h : Fin 8) (d : Fin 64), (J c).v (ix4 b j h d) = v (ix4 b j ⟨c.val * 8 + h.val, by omega⟩ d)
  wo : ∀ (c : Fin 4) (z n : Fin 512), (J c).wo (ix2 z n) = wo (ix2 ⟨c.val * 512 + z.val, by omega⟩ n)

/-- A device's input, query projection and keys are real. -/
structure Reals (I : Ins Ideal) : Prop where
  x : ∀ i, IsR (I.x i)
  wq : ∀ i, IsR (I.wq i)
  k : ∀ i, IsR (I.k i)

theorem Reals.score {I : Ins Ideal} (hI : Reals I) (b : Fin 2) (h : Fin 8) (i j : Fin 128) : IsR (sV I b h i j) :=
  IsR.dotScore (fun _ => IsR.sum _ _ fun _ => (hI.x _).mul (hI.wq _)) (fun _ => hI.k _)

section Whole

variable {J : Dev nD → Ins Ideal} {x : FVec Ideal Cert.ReferenceIdeal.S2x128x512 .f32} {wq : FVec Ideal Cert.ReferenceIdeal.S512x2048 .f32}
  {k v : FVec Ideal Cert.ReferenceIdeal.S2x128x32x64 .f32} {wo : FVec Ideal Cert.ReferenceIdeal.S2048x512 .f32}

/-- A device's scores are the reference's scores of that head. -/
theorem sV_whole (P : Parts J x wq k v wo) (c : Fin 4) (b : Fin 2) (h : Fin 8) (i : Fin 128) :
    sV (J c) b h i = fun j => dotScore (fun d => Ref.refQ x wq (ix4 b i ⟨c.val * 8 + h.val, by omega⟩ d)) (fun d => k (ix4 b j ⟨c.val * 8 + h.val, by omega⟩ d)) := by
  funext j
  unfold sV
  congr 1
  · funext d
    rw [Ref.refQ_apply x wq b i _ d ⟨c.val * 512 + (64 * h.val + d.val), by omega⟩ (by show c.val * 512 + (64 * h.val + d.val) = (c.val * 8 + h.val) * 64 + d.val; omega)]
    unfold qV
    refine Finset.sum_congr rfl fun e _ => ?_
    rw [P.x, P.wq]
  · funext d
    exact P.k c b j h d

/-- A device's head is the reference's head of that number. -/
theorem hV_whole (P : Parts J x wq k v wo) (R : ∀ c, Reals (J c)) (c : Fin 4) (b : Fin 2) (h : Fin 8) (i : Fin 128) (d : Fin 64) :
    hV (J c) b h i d = Ref.refA (Ref.refQ x wq) k v (ix4 b i ⟨c.val * 8 + h.val, by omega⟩ d) := by
  rw [Ref.refA_apply, ← sV_whole P]
  unfold hV
  rw [rowMean_eq _ (fun j => (J c).v (ix4 b j h d)) (fun j => (R c).score b h i j)]
  congr 1
  funext j
  exact P.v c b j h d

/-- The sum of the devices' parts is the reference's result. -/
theorem tV_whole (P : Parts J x wq k v wo) (R : ∀ c, Reals (J c)) (b : Fin 2) (i : Fin 128) (n : Fin 512) :
    tV J b i n = Ref.refR x wq k v wo (ix3 b i n) := by
  rw [Ref.refR_apply, Fin.sum_univ_tiles 4 512 rfl]
  unfold tV
  refine Finset.sum_congr rfl fun c _ => ?_
  unfold pV
  refine Finset.sum_congr rfl fun z _ => ?_
  have e1 : (⟨c.val * 8 + z.val / 64, by omega⟩ : Fin 32) = ⟨(c.val * 512 + z.val) / 64, by omega⟩ := Fin.ext (by show c.val * 8 + z.val / 64 = (c.val * 512 + z.val) / 64; omega)
  have e2 : (⟨z.val % 64, by omega⟩ : Fin 64) = ⟨(c.val * 512 + z.val) % 64, by omega⟩ := Fin.ext (by show z.val % 64 = (c.val * 512 + z.val) % 64; omega)
  rw [hV_whole P R, P.wo]
  dsimp only
  rw [e1, e2]

/-- Every device's result is the reference's. -/
theorem outC_whole (P : Parts J x wq k v wo) (R : ∀ c, Reals (J c)) (c : Dev nD) : outC J c = Ref.refR x wq k v wo := by
  funext i
  have e : ∀ (b : Fin 2) (r : Fin 128) (n : Fin 512), outC J c (ix3 b r n) = Ref.refR x wq k v wo (ix3 b r n) := fun b r n =>
    (outC_apply J c b r n).trans (tV_whole P R b r n)
  have hi : i = ix3 (i 0) (i 1) (i 2) := by
    funext a
    fin_cases a <;> rfl
  rw [hi]
  exact e _ _ _

end Whole

/-! ## The precondition -/

/-- An entry whose absolute value is below infinity is real. -/
theorem isR_of_lt {S : Shape} (x : FVec Ideal S .f32) (h : (⟨0, ![]⟩ : Shape).BroadcastsInDim S (![] : Fin 0 → Fin S.rank)) (i : S.Idx)
    (e : cmpf .olt (Host.absf x) (broadcastInDim S ![] h (constant (⟨0, ![]⟩ : Shape) .f32 0x7F800000#32)) i = 1#1) : IsR (x i) := by
  have e' : Ideal.cmp .olt (max (x i) (-(x i))) (Ideal.ofBits .f32 0x7F800000#32) = 1#1 := e
  rw [posInf_top] at e'
  refine isR_of_abs_lt ?_
  by_contra hn
  have e'' : BitVec.ofBool (decide (max (x i) (-(x i)) < (⊤ : EReal))) = 1#1 := e'
  rw [decide_eq_false hn] at e''
  exact absurd e'' (by decide)

/-- The precondition makes a device's input, query projection and keys real. -/
theorem reals_of_pre (m : (ℓ : Loc nD τ sig) → Buf (Elt Ideal) ℓ) (h : Cert.Pre_KernelIdeal_finite_scores_KernelIdeal m) (c : Dev nD) : Reals (ins m c) := by
  obtain ⟨h1, h2, h3⟩ := h c
  refine ⟨fun i => ?_, fun i => ?_, fun i => ?_⟩
  · have e := isR_of_lt _ _ i (congrFun h1 i)
    show IsR ((win0_0.blk (0 : Fin 1)).view.read (Elt Ideal) (m ((c.tc : Thread nD τ).loc main_arg0)) i)
    rw [read_x]
    exact e
  · have e := isR_of_lt _ _ i (congrFun h2 i)
    show IsR ((win0_1.blk (0 : Fin 1)).view.read (Elt Ideal) (m ((c.tc : Thread nD τ).loc main_arg1)) i)
    rw [read_wq]
    exact e
  · have e := isR_of_lt _ _ i (congrFun h3 i)
    show IsR ((win0_3.blk (0 : Fin 1)).view.read (Elt Ideal) (m ((c.tc : Thread nD τ).loc main_arg2)) i)
    rw [read_k]
    exact e

/-- The devices' blocks are the parts of the reference's arrays. -/
theorem parts_of_blocks (m : (ℓ : Loc nD τ sig) → Buf (Elt Ideal) ℓ)
    (x : FVec Ideal Cert.ReferenceIdeal.S2x128x512 .f32) (wq : FVec Ideal Cert.ReferenceIdeal.S512x2048 .f32)
    (k v : FVec Ideal Cert.ReferenceIdeal.S2x128x32x64 .f32) (wo : FVec Ideal Cert.ReferenceIdeal.S2048x512 .f32)
    (h : ∀ c : Dev nD, m ((c.tc : Thread nD τ).loc main_arg0) = x
      ∧ m ((c.tc : Thread nD τ).loc main_arg1) = Layout.block ⟨2, ![512, 512]⟩ ⟨2, ![512, 2048]⟩ 1 4 c wq
      ∧ m ((c.tc : Thread nD τ).loc main_arg2) = Layout.block ⟨4, ![2, 128, 8, 64]⟩ ⟨4, ![2, 128, 32, 64]⟩ 2 4 c k
      ∧ m ((c.tc : Thread nD τ).loc main_arg3) = Layout.block ⟨4, ![2, 128, 8, 64]⟩ ⟨4, ![2, 128, 32, 64]⟩ 2 4 c v
      ∧ m ((c.tc : Thread nD τ).loc main_arg4) = Layout.block ⟨2, ![512, 512]⟩ ⟨2, ![2048, 512]⟩ 0 4 c wo) :
    Parts (ins m) x wq k v wo where
  x c := (read_x _).trans (h c).1
  wq c e n := by
    refine (congrFun ((read_wq _).trans (h c).2.1) _).trans ?_
    shard_ext
  k c b j hd d := by
    refine (congrFun ((read_k _).trans (h c).2.2.1) _).trans ?_
    shard_ext
  v c b j hd d := by
    refine (congrFun ((read_v _).trans (h c).2.2.2.1) _).trans ?_
    shard_ext
  wo c z n := by
    refine (congrFun ((read_wo _).trans (h c).2.2.2.2) _).trans ?_
    shard_ext

/-- Over the extended reals, on finite scores, every device ends with the reference's result, and all arguments are unchanged. -/
theorem algebraic : Cert.algebraic_KernelIdeal_ReferenceIdeal_pre_finite_scores_KernelIdeal := by
  intro m ρ m' ρ' hpre hag
  have P := parts_of_blocks m _ _ _ _ _ hag
  have R := reals_of_pre m hpre
  refine ⟨Cert.ReferenceIdeal.Value.res_main_v30 m' 0, ?_, ?_⟩
  · refine (θ_run defs _ _).mono (fun r hr c => ⟨?_, (hr.1 c 0).trans (finalA_in m ρ c 0 (by decide)), (hr.1 c 1).trans (finalA_in m ρ c 1 (by decide)),
      (hr.1 c 3).trans (finalA_in m ρ c 3 (by decide)), (hr.1 c 4).trans (finalA_in m ρ c 4 (by decide)),
      (hr.1 c 2).trans (finalA_in m ρ c 2 (by decide))⟩) (run_main (F := Ideal) m ρ)
    refine (hr.1 c 5).trans ?_
    refine (read_out _).symm.trans ((finalA_out m ρ c).trans ((outC_whole P R c).trans ?_))
    exact (Ref.res_eq m' 0).symm
  · exact (θ_run Cert.ReferenceIdeal.defs _ _).mono (fun r hr => hr 0) (Cert.ReferenceIdeal.Value.run (F := Ideal) m' ρ')

end Cert.KProof
end
-- ==== Proof.lean ====
/-
The claim: both programs and the reference run, leave their arguments unchanged and end with every semaphore at zero;
and over the extended reals, on finite scores, every device of the kernel ends with the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  Cert.KProof.frame_kernel, Cert.KProof.frame_kernelIdeal, fun m ρ _ => Cert.KProof.frame_kernelIdeal m ρ trivial,
  Cert.KProof.frame_reference, fun m ρ _ => Cert.KProof.frame_reference m ρ trivial, trivial, Cert.KProof.algebraic⟩

end Cert.Proof

end
